-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x16x256x256 : Shape := ⟨4, ![32, 16, 256, 256]⟩
abbrev S32x1x256x256 : Shape := ⟨4, ![32, 1, 256, 256]⟩
abbrev S48x1x3x3 : Shape := ⟨4, ![48, 1, 3, 3]⟩
abbrev S128x48 : Shape := ⟨2, ![128, 48]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S48x1x3x3 : S_.BroadcastsInDim S48x1x3x3 (![] : Fin 0 → Fin S48x1x3x3.rank)
  reducesTo_S48x1x3x3_S_d0_1_2_3 : S48x1x3x3.ReducesTo [0, 1, 2, 3] S_
  bcast_S_S128x48 : S_.BroadcastsInDim S128x48 (![] : Fin 0 → Fin S128x48.rank)
  reducesTo_S128x48_S_d0_1 : S128x48.ReducesTo [0, 1] S_

variable [Facts]

def fn {F : FTy → Type} [FloatOps F] (main_arg0 : FVec F S32x16x256x256 .f32) (main_arg1 : FVec F S32x1x256x256 .f32) (main_arg2 : FVec F S48x1x3x3 .f32) (main_arg3 : FVec F S128x48 .f32) (main_arg4 : FVec F S128 .f32) (main_arg5 : FVec F S16x128 .f32) (main_arg6 : FVec F S16 .f32) : IVec S_ 1 :=
  let main_v0 : FVec F S32x16x256x256 .f32 := Host.absf main_arg0
  let main_cst : FVec F S_ .f32 := constant S_ .f32 0x7F800000#32
  let main_v1 : FVec F S32x16x256x256 .f32 := broadcastInDim S32x16x256x256 ![] bcast_S_S32x16x256x256 main_cst
  let main_v2 : IVec S32x16x256x256 1 := cmpf .olt main_v0 main_v1
  let main_c : IVec S_ 1 := constantI S_ 1 1#1
  let main_v3 : IVec S_ 1 := (fun x v => Host.reduce IntOp.andi x v reducesTo_S32x16x256x256_S_d0_1_2_3 h_S_) main_v2 main_c
  let main_v4 : FVec F S48x1x3x3 .f32 := Host.absf main_arg2
  let main_cst_0 : FVec F S_ .f32 := constant S_ .f32 0x7F800000#32
  let main_v5 : FVec F S48x1x3x3 .f32 := broadcastInDim S48x1x3x3 ![] bcast_S_S48x1x3x3 main_cst_0
  let main_v6 : IVec S48x1x3x3 1 := cmpf .olt main_v4 main_v5
  let main_c_1 : IVec S_ 1 := constantI S_ 1 1#1
  let main_v7 : IVec S_ 1 := (fun x v => Host.reduce IntOp.andi x v reducesTo_S48x1x3x3_S_d0_1_2_3 h_S_) main_v6 main_c_1
  let main_v8 : IVec S_ 1 := andi main_v3 main_v7
  let main_v9 : FVec F S128x48 .f32 := Host.absf main_arg3
  let main_cst_2 : FVec F S_ .f32 := constant S_ .f32 0x7F800000#32
  let main_v10 : FVec F S128x48 .f32 := broadcastInDim S128x48 ![] bcast_S_S128x48 main_cst_2
  let main_v11 : IVec S128x48 1 := cmpf .olt main_v9 main_v10
  let main_c_3 : IVec S_ 1 := constantI S_ 1 1#1
  let main_v12 : IVec S_ 1 := (fun x v => Host.reduce IntOp.andi x v reducesTo_S128x48_S_d0_1 h_S_) main_v11 main_c_3
  let main_v13 : IVec S_ 1 := andi main_v8 main_v12
  main_v13
-- ==== Kernel.lean ====
abbrev S32x16x256x256 : Shape := ⟨4, ![32, 16, 256, 256]⟩
abbrev S32x1x256x256 : Shape := ⟨4, ![32, 1, 256, 256]⟩
abbrev S48x1x3x3 : Shape := ⟨4, ![48, 1, 3, 3]⟩
abbrev S128x48 : Shape := ⟨2, ![128, 48]⟩
abbrev S128 : Shape := ⟨1, ![128]⟩
abbrev S16x128 : Shape := ⟨2, ![16, 128]⟩
abbrev S16 : Shape := ⟨1, ![16]⟩
abbrev S16x3x3x3 : Shape := ⟨4, ![16, 3, 3, 3]⟩
abbrev S128x16x3 : Shape := ⟨3, ![128, 16, 3]⟩
abbrev S16x3x3x128 : Shape := ⟨4, ![16, 3, 3, 128]⟩
abbrev S128x3x3x16 : Shape := ⟨4, ![128, 3, 3, 16]⟩
abbrev S128x144 : Shape := ⟨2, ![128, 144]⟩
abbrev S128x1 : Shape := ⟨2, ![128, 1]⟩
abbrev S128x145 : Shape := ⟨2, ![128, 145]⟩
abbrev S16x1 : Shape := ⟨2, ![16, 1]⟩
abbrev S16x129 : Shape := ⟨2, ![16, 129]⟩
abbrev S32x16x65536 : Shape := ⟨3, ![32, 16, 65536]⟩
abbrev S32x1x65536 : Shape := ⟨3, ![32, 1, 65536]⟩
abbrev S1x16x65536 : Shape := ⟨3, ![1, 16, 65536]⟩
abbrev S1x1x65536 : Shape := ⟨3, ![1, 1, 65536]⟩
abbrev S16x65536 : Shape := ⟨2, ![16, 65536]⟩
abbrev S1x8192 : Shape := ⟨2, ![1, 8192]⟩
abbrev S16x8192 : Shape := ⟨2, ![16, 8192]⟩
abbrev S145x8192 : Shape := ⟨2, ![145, 8192]⟩
abbrev S128x8192 : Shape := ⟨2, ![128, 8192]⟩
abbrev S129x8192 : Shape := ⟨2, ![129, 8192]⟩
abbrev S1x1x8192 : Shape := ⟨3, ![1, 1, 8192]⟩
abbrev S1x16x8192 : Shape := ⟨3, ![1, 16, 8192]⟩
abbrev S1x65536 : Shape := ⟨2, ![1, 65536]⟩

abbrev nBuf : Space → Nat
  | .hbm => 20
  | .vmem => 8
  | .smem => 0
  | _ => 0

abbrev bufTy : (tb : Table) → Fin (tcTables nBuf tb) → BufTy
  | .hbm, ⟨0, _⟩ => ⟨S32x16x256x256, .f32⟩
  | .hbm, ⟨1, _⟩ => ⟨S32x1x256x256, .f32⟩
  | .hbm, ⟨2, _⟩ => ⟨S48x1x3x3, .f32⟩
  | .hbm, ⟨3, _⟩ => ⟨S128x48, .f32⟩
  | .hbm, ⟨4, _⟩ => ⟨S128, .f32⟩
  | .hbm, ⟨5, _⟩ => ⟨S16x128, .f32⟩
  | .hbm, ⟨6, _⟩ => ⟨S16, .f32⟩
  | .hbm, ⟨7, _⟩ => ⟨S16x3x3x3, .f32⟩
  | .hbm, ⟨8, _⟩ => ⟨S128x16x3, .f32⟩
  | .hbm, ⟨9, _⟩ => ⟨S16x3x3x128, .f32⟩
  | .hbm, ⟨10, _⟩ => ⟨S128x3x3x16, .f32⟩
  | .hbm, ⟨11, _⟩ => ⟨S128x144, .f32⟩
  | .hbm, ⟨12, _⟩ => ⟨S128x1, .f32⟩
  | .hbm, ⟨13, _⟩ => ⟨S128x145, .f32⟩
  | .hbm, ⟨14, _⟩ => ⟨S16x1, .f32⟩
  | .hbm, ⟨15, _⟩ => ⟨S16x129, .f32⟩
  | .hbm, ⟨16, _⟩ => ⟨S32x16x65536, .f32⟩
  | .hbm, ⟨17, _⟩ => ⟨S32x1x65536, .f32⟩
  | .hbm, ⟨18, _⟩ => ⟨S32x16x65536, .f32⟩
  | .hbm, ⟨19, _⟩ => ⟨S32x16x256x256, .f32⟩
  | .local _ .vmem, ⟨0, _⟩ => ⟨S1x16x65536, .f32⟩
  | .local _ .vmem, ⟨1, _⟩ => ⟨S1x16x65536, .f32⟩
  | .local _ .vmem, ⟨2, _⟩ => ⟨S1x1x65536, .f32⟩
  | .local _ .vmem, ⟨3, _⟩ => ⟨S1x1x65536, .f32⟩
  | .local _ .vmem, ⟨4, _⟩ => ⟨S128x145, .f32⟩
  | .local _ .vmem, ⟨5, _⟩ => ⟨S16x129, .f32⟩
  | .local _ .vmem, ⟨6, _⟩ => ⟨S1x16x65536, .f32⟩
  | .local _ .vmem, ⟨7, _⟩ => ⟨S1x16x65536, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x145 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x16x256x256 : Shape := ⟨4, ![32, 16, 256, 256]⟩
abbrev S32x1x256x256 : Shape := ⟨4, ![32, 1, 256, 256]⟩
abbrev S48x1x3x3 : Shape := ⟨4, ![48, 1, 3, 3]⟩
abbrev S128x48 : Shape := ⟨2, ![128, 48]⟩
abbrev S128 : Shape := ⟨1, ![128]⟩
abbrev S16x128 : Shape := ⟨2, ![16, 128]⟩
abbrev S16 : Shape := ⟨1, ![16]⟩
abbrev S_ : Shape := ⟨0, ![]⟩
abbrev S32x16x1x256 : Shape := ⟨4, ![32, 16, 1, 256]⟩
abbrev S32x16x258x256 : Shape := ⟨4, ![32, 16, 258, 256]⟩
abbrev S32x16x258x1 : Shape := ⟨4, ![32, 16, 258, 1]⟩
abbrev S32x16x258x258 : Shape := ⟨4, ![32, 16, 258, 258]⟩
abbrev S32x16x3x258x258 : Shape := ⟨5, ![32, 16, 3, 258, 258]⟩
abbrev S32x48x258x258 : Shape := ⟨4, ![32, 48, 258, 258]⟩
abbrev S32x48x256x256 : Shape := ⟨4, ![32, 48, 256, 256]⟩
abbrev S48x1x1x1 : Shape := ⟨4, ![48, 1, 1, 1]⟩
abbrev S48 : Shape := ⟨1, ![48]⟩
abbrev S1x48x1x1 : Shape := ⟨4, ![1, 48, 1, 1]⟩
abbrev S128x32x256x256 : Shape := ⟨4, ![128, 32, 256, 256]⟩
abbrev S32x128x256x256 : Shape := ⟨4, ![32, 128, 256, 256]⟩
abbrev S1x128x1x1 : Shape := ⟨4, ![1, 128, 1, 1]⟩
abbrev S16x32x256x256 : Shape := ⟨4, ![16, 32, 256, 256]⟩
abbrev S1x16x1x1 : Shape := ⟨4, ![1, 16, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S32x16x256x256, .f32⟩
  | .hbm, ⟨1, _⟩ => ⟨S32x1x256x256, .f32⟩
  | .hbm, ⟨2, _⟩ => ⟨S48x1x3x3, .f32⟩
  | .hbm, ⟨3, _⟩ => ⟨S128x48, .f32⟩
  | .hbm, ⟨4, _⟩ => ⟨S128, .f32⟩
  | .hbm, ⟨5, _⟩ => ⟨S16x128, .f32⟩
  | .hbm, ⟨6, _⟩ => ⟨S16, .f32⟩
  | .hbm, ⟨7, _⟩ => ⟨S32x1x256x256, .f32⟩
  | .hbm, ⟨8, _⟩ => ⟨S_, .f32⟩
  | .hbm, ⟨9, _⟩ => ⟨S_, .f32⟩
  | .hbm, ⟨10, _⟩ => ⟨S32x1x256x256, .f32⟩
  | .hbm, ⟨11, _⟩ => ⟨S_, .f32⟩
  | .hbm, ⟨12, _⟩ => ⟨S32x1x256x256, .f32⟩
  | .hbm, ⟨13, _⟩ => ⟨S32x1x256x256, .i1⟩
  | .hbm, ⟨14, _⟩ => ⟨S32x16x1x256, .f32⟩
  | .hbm, ⟨15, _⟩ => ⟨S32x16x1x256, .f32⟩
  | .hbm, ⟨16, _⟩ => ⟨S32x16x258x256, .f32⟩
  | .hbm, ⟨17, _⟩ => ⟨S32x16x258x1, .f32⟩
  | .hbm, ⟨18, _⟩ => ⟨S32x16x258x1, .f32⟩
  | .hbm, ⟨19, _⟩ => ⟨S32x16x258x258, .f32⟩
  | .hbm, ⟨20, _⟩ => ⟨S32x16x3x258x258, .f32⟩
  | .hbm, ⟨21, _⟩ => ⟨S32x48x258x258, .f32⟩
  | .hbm, ⟨22, _⟩ => ⟨S32x48x256x256, .f32⟩
  | .hbm, ⟨23, _⟩ => ⟨S48x1x1x1, .f32⟩
  | .hbm, ⟨24, _⟩ => ⟨S48, .f32⟩
  | .hbm, ⟨25, _⟩ => ⟨S1x48x1x1, .f32⟩
  | .hbm, ⟨26, _⟩ => ⟨S32x48x256x256, .f32⟩
  | .hbm, ⟨27, _⟩ => ⟨S32x48x256x256, .f32⟩
  | .hbm, ⟨28, _⟩ => ⟨S_, .f32⟩
  | .hbm, ⟨29, _⟩ => ⟨S32x48x256x256, .f32⟩
  | .hbm, ⟨30, _⟩ => ⟨S32x48x256x256, .f32⟩
  | .hbm, ⟨31, _⟩ => ⟨S32x48x256x256, .f32⟩
  | .hbm, ⟨32, _⟩ => ⟨S48x1x1x1, .f32⟩
  | .hbm, ⟨33, _⟩ => ⟨S48, .f32⟩
  | .hbm, ⟨34, _⟩ => ⟨S1x48x1x1, .f32⟩
  | .hbm, ⟨35, _⟩ => ⟨S32x48x256x256, .f32⟩
  | .hbm, ⟨36, _⟩ => ⟨S32x48x256x256, .f32⟩
  | .hbm, ⟨37, _⟩ => ⟨S32x48x256x256, .f32⟩
  | .hbm, ⟨38, _⟩ => ⟨S32x48x256x256, .f32⟩
  | .hbm, ⟨39, _⟩ => ⟨S48x1x1x1, .f32⟩
  | .hbm, ⟨40, _⟩ => ⟨S48, .f32⟩
  | .hbm, ⟨41, _⟩ => ⟨S1x48x1x1, .f32⟩
  | .hbm, ⟨42, _⟩ => ⟨S32x48x256x256, .f32⟩
  | .hbm, ⟨43, _⟩ => ⟨S32x48x256x256, .f32⟩
  | .hbm, ⟨44, _⟩ => ⟨S32x48x256x256, .f32⟩
  | .hbm, ⟨45, _⟩ => ⟨S32x48x256x256, .f32⟩
  | .hbm, ⟨46, _⟩ => ⟨S48x1x1x1, .f32⟩
  | .hbm, ⟨47, _⟩ => ⟨S48, .f32⟩
  | .hbm, ⟨48, _⟩ => ⟨S1x48x1x1, .f32⟩
  | .hbm, ⟨49, _⟩ => ⟨S32x48x256x256, .f32⟩
  | .hbm, ⟨50, _⟩ => ⟨S32x48x256x256, .f32⟩
  | .hbm, ⟨51, _⟩ => ⟨S32x48x256x256, .f32⟩
  | .hbm, ⟨52, _⟩ => ⟨S32x48x256x256, .f32⟩
  | .hbm, ⟨53, _⟩ => ⟨S48x1x1x1, .f32⟩
  | .hbm, ⟨54, _⟩ => ⟨S48, .f32⟩
  | .hbm, ⟨55, _⟩ => ⟨S1x48x1x1, .f32⟩
  | .hbm, ⟨56, _⟩ => ⟨S32x48x256x256, .f32⟩
  | .hbm, ⟨57, _⟩ => ⟨S32x48x256x256, .f32⟩
  | .hbm, ⟨58, _⟩ => ⟨S32x48x256x256, .f32⟩
  | .hbm, ⟨59, _⟩ => ⟨S32x48x256x256, .f32⟩
  | .hbm, ⟨60, _⟩ => ⟨S48x1x1x1, .f32⟩
  | .hbm, ⟨61, _⟩ => ⟨S48, .f32⟩
  | .hbm, ⟨62, _⟩ => ⟨S1x48x1x1, .f32⟩
  | .hbm, ⟨63, _⟩ => ⟨S32x48x256x256, .f32⟩
  | .hbm, ⟨64, _⟩ => ⟨S32x48x256x256, .f32⟩
  | .hbm, ⟨65, _⟩ => ⟨S32x48x256x256, .f32⟩
  | .hbm, ⟨66, _⟩ => ⟨S32x48x256x256, .f32⟩
  | .hbm, ⟨67, _⟩ => ⟨S48x1x1x1, .f32⟩
  | .hbm, ⟨68, _⟩ => ⟨S48, .f32⟩
  | .hbm, ⟨69, _⟩ => ⟨S1x48x1x1, .f32⟩
  | .hbm, ⟨70, _⟩ => ⟨S32x48x256x256, .f32⟩
  | .hbm, ⟨71, _⟩ => ⟨S32x48x256x256, .f32⟩
  | .hbm, ⟨72, _⟩ => ⟨S32x48x256x256, .f32⟩
  | .hbm, ⟨73, _⟩ => ⟨S32x48x256x256, .f32⟩
  | .hbm, ⟨74, _⟩ => ⟨S48x1x1x1, .f32⟩
  | .hbm, ⟨75, _⟩ => ⟨S48, .f32⟩
  | .hbm, ⟨76, _⟩ => ⟨S1x48x1x1, .f32⟩
  | .hbm, ⟨77, _⟩ => ⟨S32x48x256x256, .f32⟩
  | .hbm, ⟨78, _⟩ => ⟨S32x48x256x256, .f32⟩
  | .hbm, ⟨79, _⟩ => ⟨S32x48x256x256, .f32⟩
  | .hbm, ⟨80, _⟩ => ⟨S32x48x256x256, .f32⟩
  | .hbm, ⟨81, _⟩ => ⟨S48x1x1x1, .f32⟩
  | .hbm, ⟨82, _⟩ => ⟨S48, .f32⟩
  | .hbm, ⟨83, _⟩ => ⟨S1x48x1x1, .f32⟩
  | .hbm, ⟨84, _⟩ => ⟨S32x48x256x256, .f32⟩
  | .hbm, ⟨85, _⟩ => ⟨S32x48x256x256, .f32⟩
  | .hbm, ⟨86, _⟩ => ⟨S32x48x256x256, .f32⟩
  | .hbm, ⟨87, _⟩ => ⟨S128x32x256x256, .f32⟩
  | .hbm, ⟨88, _⟩ => ⟨S32x128x256x256, .f32⟩
  | .hbm, ⟨89, _⟩ => ⟨S1x128x1x1, .f32⟩
  | .hbm, ⟨90, _⟩ => ⟨S32x128x256x256, .f32⟩
  | .hbm, ⟨91, _⟩ => ⟨S32x128x256x256, .f32⟩
  | .hbm, ⟨92, _⟩ => ⟨S_, .f32⟩
  | .hbm, ⟨93, _⟩ => ⟨S32x128x256x256, .f32⟩
  | .hbm, ⟨94, _⟩ => ⟨S32x128x256x256, .f32⟩
  | .hbm, ⟨95, _⟩ => ⟨S16x32x256x256, .f32⟩
  | .hbm, ⟨96, _⟩ => ⟨S32x16x256x256, .f32⟩
  | .hbm, ⟨97, _⟩ => ⟨S1x16x1x1, .f32⟩
  | .hbm, ⟨98, _⟩ => ⟨S32x16x256x256, .f32⟩
  | .hbm, ⟨99, _⟩ => ⟨S32x16x256x256, .f32⟩
  | .hbm, ⟨100, _⟩ => ⟨S_, .f32⟩
  | .hbm, ⟨101, _⟩ => ⟨S32x16x256x256, .f32⟩
  | .hbm, ⟨102, _⟩ => ⟨S32x16x256x256, .f32⟩
  | .hbm, ⟨103, _⟩ => ⟨S_, .f32⟩
  | .hbm, ⟨104, _⟩ => ⟨S32x1x256x256, .f32⟩
  | .hbm, ⟨105, _⟩ => ⟨S32x1x256x256, .i1⟩
  | .hbm, ⟨106, _⟩ => ⟨S32x1x256x256, .f32⟩
  | .hbm, ⟨107, _⟩ => ⟨S32x16x256x256, .f32⟩
  | .hbm, ⟨108, _⟩ => ⟨S32x16x256x256, .f32⟩
  | .hbm, ⟨109, _⟩ => ⟨S32x16x256x256, .f32⟩
  | .hbm, ⟨110, _⟩ => ⟨S32x1x256x256, .f32⟩
  | .hbm, ⟨111, _⟩ => ⟨S_, .f32⟩
  | .hbm, ⟨112, _⟩ => ⟨S_, .f32⟩
  | .hbm, ⟨113, _⟩ => ⟨S32x1x256x256, .f32⟩
  | .hbm, ⟨114, _⟩ => ⟨S_, .f32⟩
  | .hbm, ⟨115, _⟩ => ⟨S32x1x256x256, .f32⟩
  | .hbm, ⟨116, _⟩ => ⟨S32x1x256x256, .i1⟩
  | .hbm, ⟨117, _⟩ => ⟨S32x1x256x256, .i1⟩
  | .hbm, ⟨118, _⟩ => ⟨S32x1x256x256, .f32⟩
  | .hbm, ⟨119, _⟩ => ⟨S32x16x256x256, .f32⟩
  | .hbm, ⟨120, _⟩ => ⟨S32x16x256x256, .f32⟩
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_call0_cst : Ref sig .tc := ⟨.hbm, 92, rfl⟩
abbrev main_call0_v0 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_2 : Ref sig .tc := ⟨.hbm, 100, rfl⟩
abbrev main_v88 : Ref sig .tc := ⟨.hbm, 101, rfl⟩
abbrev main_v89 : Ref sig .tc := ⟨.hbm, 102, rfl⟩
abbrev main_cst_3 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_4 : Ref sig .tc := ⟨.hbm, 111, rfl⟩
abbrev main_v97 : Ref sig .tc := ⟨.hbm, 112, rfl⟩
abbrev main_v98 : Ref sig .tc := ⟨.hbm, 113, rfl⟩
abbrev main_cst_5 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩

abbrev nD : Nat := 1
abbrev τ : Topo := Topo.v7x

variable {F : FTy → Type} [FloatOps F]
-- ==== Proof.Chunk.lean ====
/- The pure values of one grid step: the patch matrix of a chunk, the two products, the update. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.Proof

open Idealize.ShloMosaic Idealize.ShloMosaic.TcCoe Idealize.SL.Sem
open Cert.KernelIdeal Cert.KernelIdeal.Gen

/-- A vector turned by `n` lanes, cut at the chunk's 8192 pixels. -/
def turned (o : ℕ) (hs : S16x65536.Slices ![0, o] S16x8192) (n : BitVec 32) (v : FVec Ideal S16x65536 .f32) :
    FVec Ideal S16x8192 .f32 :=
  extractStridedSlice S16x8192 ![0, o] (dynamicRotate 1 n none v rotates_S16x65536_d1) hs

/-- The pieces of the patch matrix: nine shifted slices of 16 channels and a row of ones; `v14`, `v1`, `v11` are the
    state moved by -1, 0, +1 columns. -/
def patchL (o : ℕ) (hs : S16x65536.Slices ![0, o] S16x8192) (v1 v11 v14 : FVec Ideal S16x65536 .f32) :
    List ((s : Shape) × (s.Idx → EReal)) :=
  [⟨S16x8192, turned o hs 256#32 v14⟩, ⟨S16x8192, turned o hs 256#32 v1⟩, ⟨S16x8192, turned o hs 256#32 v11⟩, ⟨S16x8192, turned o hs 0#32 v14⟩, ⟨S16x8192, turned o hs 0#32 v1⟩, ⟨S16x8192, turned o hs 0#32 v11⟩, ⟨S16x8192, turned o hs 65280#32 v14⟩, ⟨S16x8192, turned o hs 65280#32 v1⟩, ⟨S16x8192, turned o hs 65280#32 v11⟩, ⟨S1x8192, k0_pay5 (F := Ideal)⟩]

/-- The patch matrix of the chunk of 8192 pixels starting at `o`. -/
def patchV (o : ℕ) (hs : S16x65536.Slices ![0, o] S16x8192) (v1 v11 v14 : FVec Ideal S16x65536 .f32) :
    FVec Ideal S145x8192 .f32 :=
  concatenate S145x8192 0 (patchL o hs v1 v11 v14) concatenates_S16x8192_S16x8192_S16x8192_S16x8192_S16x8192_S16x8192_S16x8192_S16x8192_S16x8192_S1x8192_S145x8192_d0

/-- The chunk's update of the state, as operations on whole vectors, from its patch matrix `pt`. -/
def updV (o : ℕ) (hs : S16x65536.Slices ![0, o] S16x8192) (v1 : FVec Ideal S16x65536 .f32) (pt : FVec Ideal S145x8192 .f32)
    (wa : FVec Ideal S128x145 .f32) (wb : FVec Ideal S16x129 .f32) (r : FVec Ideal S1x1x8192 .f32) :
    FVec Ideal S1x16x8192 .f32 :=
  let h : FVec Ideal S128x8192 .f32 := maximumf (matmul dot_S128x145_S145x8192_S128x8192_1_0_0_1_n_n none (shapeCast S128x145 wa shapeCasts_S128x145_S128x145) pt (constant S128x8192 .f32 0x00000000#32)) (broadcast S128x8192 (Scalar.ofBits .f32 0x00000000#32))
  let h1 : FVec Ideal S129x8192 .f32 := concatenate S129x8192 0 [⟨S128x8192, h⟩, ⟨S1x8192, k0_pay5 (F := Ideal)⟩] concatenates_S128x8192_S1x8192_S129x8192_d0
  let dx : FVec Ideal S16x8192 .f32 := matmul dot_S16x129_S129x8192_S16x8192_1_0_0_1_n_n none (shapeCast S16x129 wb shapeCasts_S16x129_S16x129) h1 (constant S16x8192 .f32 0x00000000#32)
  let keep : IVec S1x8192 1 := cmpf .ole (shapeCast S1x8192 r shapeCasts_S1x1x8192_S1x8192 : FVec Ideal S1x8192 .f32) (broadcast S1x8192 (Scalar.ofBits .f32 0x3F000000#32))
  let u : FVec Ideal S16x8192 .f32 := addf (extractStridedSlice S16x8192 ![0, o] v1 hs) (select (broadcastTo S16x8192 (shapeCast S1x8192 keep shapeCasts_S1x8192_S1x8192) broadcasts_S1x8192_S16x8192) dx (broadcast S16x8192 (Scalar.ofBits .f32 0x00000000#32)))
  shapeCast S1x16x8192 u shapeCasts_S16x8192_S1x16x8192

/-- What a chunk stores. -/
def chunkV (o : ℕ) (hs : S16x65536.Slices ![0, o] S16x8192) (v1 v11 v14 : FVec Ideal S16x65536 .f32)
    (wa : FVec Ideal S128x145 .f32) (wb : FVec Ideal S16x129 .f32) (r : FVec Ideal S1x1x8192 .f32) :
    FVec Ideal S1x16x8192 .f32 :=
  updV o hs v1 (patchV o hs v1 v11 v14) wa wb r

section
variable (v0 : FVec Ideal S1x16x65536 .f32) (wa : FVec Ideal S128x145 .f32) (wb : FVec Ideal S16x129 .f32)
  (r : FVec Ideal S1x1x8192 .f32)

/-- Chunk 0's stored value is the chunk function at offset 0. -/
theorem pay_chunk0 : k0_pay8 (F := Ideal) (k0_pay1 v0) k0_pay5 (k0_pay6 v0) (k0_pay7 wa) wb r
    = chunkV 0 slices_S16x65536_o0_0_S16x8192 (k0_pay1 v0) (k0_pay3 v0) (k0_pay4 v0) wa wb r := rfl

variable (v1 v11 v14 : FVec Ideal S16x65536 .f32)

/-- Chunk 1's stored value is the chunk function at offset 8192. -/
theorem pay_chunk1 : k0_pay18 (F := Ideal) v1 k0_pay5 (k0_pay9 v14) (k0_pay10 v1) (k0_pay11 v11) (k0_pay12 v14) (k0_pay13 v1) (k0_pay14 v11) (k0_pay15 v14) (k0_pay16 v1) (k0_pay17 v11) wa wb r
    = chunkV 8192 slices_S16x65536_o0_8192_S16x8192 v1 v11 v14 wa wb r := rfl

/-- Chunk 2's stored value is the chunk function at offset 16384. -/
theorem pay_chunk2 : k0_pay26 (F := Ideal) v1 v11 k0_pay5 (k0_pay19 v14) (k0_pay20 v1) (k0_pay21 v11) (k0_pay22 v14) (k0_pay23 v1) (k0_pay24 v11) (k0_pay25 v14) wa wb r
    = chunkV 16384 slices_S16x65536_o0_16384_S16x8192 v1 v11 v14 wa wb r := rfl

/-- Chunk 3's stored value is the chunk function at offset 24576. -/
theorem pay_chunk3 : k0_pay32 (F := Ideal) v1 v11 v14 k0_pay5 (k0_pay27 v14) (k0_pay28 v1) (k0_pay29 v11) (k0_pay30 v14) (k0_pay31 v1) wa wb r
    = chunkV 24576 slices_S16x65536_o0_24576_S16x8192 v1 v11 v14 wa wb r := rfl

/-- Chunk 4's stored value is the chunk function at offset 32768. -/
theorem pay_chunk4 : k0_pay36 (F := Ideal) v1 v11 v14 k0_pay5 (k0_pay33 v14) (k0_pay34 v1) (k0_pay35 v11) wa wb r
    = chunkV 32768 slices_S16x65536_o0_32768_S16x8192 v1 v11 v14 wa wb r := rfl

/-- Chunk 5's stored value is the chunk function at offset 40960. -/
theorem pay_chunk5 : k0_pay39 (F := Ideal) (k0_pay38 v1 v11 v14 k0_pay5 (k0_pay37 v14) wa wb r)
    = chunkV 40960 slices_S16x65536_o0_40960_S16x8192 v1 v11 v14 wa wb r := rfl

/-- Chunk 6's stored value is the chunk function at offset 49152. -/
theorem pay_chunk6 : k0_pay43 (F := Ideal) (k0_pay40 v1 v11 v14 k0_pay5 wa wb) (k0_pay41 v1) (Scalar.ofBits .f32 0x00000000#32) (k0_pay42 (F := Ideal) r)
    = chunkV 49152 slices_S16x65536_o0_49152_S16x8192 v1 v11 v14 wa wb r := rfl

/-- Chunk 7's stored value is the chunk function at offset 57344. -/
theorem pay_chunk7 : k0_pay46 (F := Ideal) v1 (k0_pay44 v1 v11 v14 k0_pay5 wa wb) (k0_pay45 r) (Scalar.ofBits .f32 0x3F000000#32)
    = chunkV 57344 slices_S16x65536_o0_57344_S16x8192 v1 v11 v14 wa wb r := rfl
end

/-- The update read at a channel and a pixel. -/
theorem updV_at (o : ℕ) (hs : S16x65536.Slices ![0, o] S16x8192) (ho : o + 8192 ≤ 65536) (v1 : FVec Ideal S16x65536 .f32)
    (pt : FVec Ideal S145x8192 .f32) (wa : FVec Ideal S128x145 .f32) (wb : FVec Ideal S16x129 .f32)
    (r : FVec Ideal S1x1x8192 .f32) (c : Fin 16) (l : Fin 8192) :
    updV o hs v1 pt wa wb r (ix3 0 c l) = v1 (ix2 c ⟨o + l, by omega⟩) +
      if r (ix3 0 0 l) ≤ Ideal.ofBits .f32 0x3F000000#32 then
        (∑ k : Fin 128, wb (ix2 c ⟨k, by omega⟩) * max (∑ q : Fin 145, wa (ix2 k q) * pt (ix2 q l)) 0) + wb (ix2 c 128)
      else 0 := by
  pointwise [updV, k0_pay5]
  rw [Fin.sum_univ_one]

/-- A piece of the patch matrix read at its rows. -/
theorem patchV_piece (o : ℕ) (hs : S16x65536.Slices ![0, o] S16x8192) (ho : o + 8192 ≤ 65536)
    (v1 v11 v14 : FVec Ideal S16x65536 .f32) (k : ℕ) (hk : k < 9) (n : BitVec 32) (v : FVec Ideal S16x65536 .f32)
    (hx : (patchL o hs v1 v11 v14)[k]'(by show k < 10; omega) = ⟨S16x8192, turned o hs n v⟩)
    (hpre : ((((patchL o hs v1 v11 v14).take k).map (·.1)).map fun s => if h : s.rank = S145x8192.rank then s.size ((0 : Fin S145x8192.rank).cast h.symm) else 0).sum = 16 * k)
    (c : Fin 16) (l : Fin 8192) :
    patchV o hs v1 v11 v14 (ix2 ⟨16 * k + c, by omega⟩ l)
      = v (ix2 c ⟨(o + l + 65536 - n.toNat % 65536) % 65536, Nat.mod_lt _ (by norm_num)⟩) := by
  refine (concatenate_apply_piece (t := S145x8192) 0 (patchL o hs v1 v11 v14) _
    (ix2 ⟨16 * k + c, by omega⟩ l : S145x8192.Idx) k _ S16x8192 _ hx rfl (16 * k) hpre (ix2 c l) ?_ rfl).trans ?_
  · intro b hb
    match b, hb with
    | ⟨0, _⟩, hb => exact absurd rfl hb
    | ⟨1, _⟩, _ => rfl
  · pointwise [turned]

/-- The last row of the patch matrix is a row of ones. -/
theorem patchV_last (o : ℕ) (hs : S16x65536.Slices ![0, o] S16x8192)
    (v1 v11 v14 : FVec Ideal S16x65536 .f32) (l : Fin 8192) :
    patchV o hs v1 v11 v14 (ix2 144 l) = 1 := by
  refine (concatenate_apply_piece (t := S145x8192) 0 (patchL o hs v1 v11 v14) _
    (ix2 144 l : S145x8192.Idx) 9 (by show 9 < 10; norm_num) S1x8192 _ rfl rfl 144 rfl (ix2 0 l) ?_ rfl).trans ?_
  · intro b hb
    match b, hb with
    | ⟨0, _⟩, hb => exact absurd rfl hb
    | ⟨1, _⟩, _ => rfl
  · pointwise [k0_pay5]

/-- The pixel at row offset `i - 1` and column offset `j - 1` of pixel `p` (rows and columns of length 256, wrapping). -/
def nb (i j : Fin 3) (p : Fin 65536) : Fin 65536 :=
  ⟨((p / 256 + i + 255) % 256) * 256 + (p % 256 + j + 255) % 256, by omega⟩

/-- A rotation along the pixels, read at a channel and a pixel. -/
theorem rot_at (n : BitVec 32) (v : FVec Ideal S16x65536 .f32) (c : Fin 16) (p : Fin 65536) :
    dynamicRotate 1 n none v rotates_S16x65536_d1 (ix2 c p)
      = v (ix2 c ⟨(p + 65536 - n.toNat % 65536) % 65536, Nat.mod_lt _ (by norm_num)⟩) := by
  pointwise

/-- The column of a pixel as the kernel computes it: the low eight bits of the lane. -/
theorem col_toNat (p : Fin 65536) : (BitVec.ofNat 32 p &&& 255#32).toNat = p % 256 := by
  rw [BitVec.toNat_and, BitVec.toNat_ofNat, Nat.mod_eq_of_lt (by omega)]
  exact Nat.and_two_pow_sub_one_eq_mod p 8

/-- The column compared with a word. -/
theorem col_eq_iff (p : Fin 65536) (e : BitVec 32) :
    IntOp.cmpi .eq (IntOp.andi (BitVec.ofNat 32 p) 255#32) e = 1#1 ↔ (p : ℕ) % 256 = e.toNat := by
  rw [WordCmp.cmpi_eq_eq_toNat, WordCmp.ofBool_decide_eq_one_iff]
  exact Eq.congr (col_toNat p) rfl

/-- A choice by the column of the pixel. -/
theorem edge_at (e : BitVec 32) (a b : FVec Ideal S16x65536 .f32) (c : Fin 16) (p : Fin 65536) :
    select (cmpi .eq k0_pay2 (broadcast S16x65536 e)) a b (ix2 c p)
      = if (p : ℕ) % 256 = e.toNat then a (ix2 c p) else b (ix2 c p) := by
  pointwise [k0_pay2]
  refine if_congr ?_ rfl rfl
  exact col_eq_iff p e

/-- The state itself. -/
theorem mid_at (v0 : FVec Ideal S1x16x65536 .f32) (c : Fin 16) (p : Fin 65536) :
    k0_pay1 (F := Ideal) v0 (ix2 c p) = v0 (ix3 0 c p) := by
  pointwise [k0_pay1]

/-- The middle neighbour of a pixel is the pixel itself. -/
theorem nb_mid (p : Fin 65536) : nb 1 1 p = p := by
  simp only [nb, Fin.ext_iff, Fin.val_one]
  omega

/-- The state moved by +1 column. -/
theorem right_at (v0 : FVec Ideal S1x16x65536 .f32) (c : Fin 16) (p : Fin 65536) :
    k0_pay3 (F := Ideal) v0 (ix2 c p) = v0 (ix3 0 c (nb 1 2 p)) := by
  refine (edge_at _ _ _ c p).trans ?_
  rw [rot_at, rot_at, mid_at, mid_at, ← apply_ite (fun q => v0 (ix3 0 c q))]
  congr 2
  simp only [nb, Fin.ext_iff, Fin.val_one, Fin.val_two]
  have e1 : (255#32).toNat = 255 := rfl
  have e2 : (65535#32).toNat = 65535 := rfl
  rw [e1, e2]
  split_ifs with h <;> dsimp only <;> omega

/-- The state moved by -1 column. -/
theorem left_at (v0 : FVec Ideal S1x16x65536 .f32) (c : Fin 16) (p : Fin 65536) :
    k0_pay4 (F := Ideal) v0 (ix2 c p) = v0 (ix3 0 c (nb 1 0 p)) := by
  refine (edge_at _ _ _ c p).trans ?_
  rw [rot_at, rot_at, mid_at, mid_at, ← apply_ite (fun q => v0 (ix3 0 c q))]
  congr 2
  simp only [nb, Fin.ext_iff, Fin.val_one, Fin.val_zero]
  have e1 : (0#32).toNat = 0 := rfl
  have e2 : (65281#32).toNat = 65281 := rfl
  have e3 : (1#32).toNat = 1 := rfl
  rw [e1, e2, e3]
  split_ifs with h <;> dsimp only <;> omega

/-- A neighbour in the previous row, read through the rotation by one row. -/
theorem nb_up (e : Fin 3) (p : Fin 65536) : nb 1 e ⟨(p + 65536 - (256#32).toNat % 65536) % 65536, Nat.mod_lt _ (by norm_num)⟩ = nb 0 e p := by
  have e1 : (256#32).toNat = 256 := rfl
  simp only [nb, Fin.ext_iff, Fin.val_one, Fin.val_zero, e1]
  omega

/-- A neighbour in the same row, read through a rotation by nothing. -/
theorem nb_same (e : Fin 3) (p : Fin 65536) : nb 1 e ⟨(p + 65536 - (0#32).toNat % 65536) % 65536, Nat.mod_lt _ (by norm_num)⟩ = nb 1 e p := by
  have e1 : (0#32).toNat = 0 := rfl
  simp only [nb, Fin.ext_iff, Fin.val_one, e1]
  omega

/-- A neighbour in the next row, read through the rotation by all rows but one. -/
theorem nb_down (e : Fin 3) (p : Fin 65536) : nb 1 e ⟨(p + 65536 - (65280#32).toNat % 65536) % 65536, Nat.mod_lt _ (by norm_num)⟩ = nb 2 e p := by
  have e1 : (65280#32).toNat = 65280 := rfl
  simp only [nb, Fin.ext_iff, Fin.val_one, Fin.val_two, e1]
  omega

/-- One piece of the patch matrix, from its column shift and its row shift. -/
theorem patchV_tap (o : ℕ) (hs : S16x65536.Slices ![0, o] S16x8192) (ho : o + 8192 ≤ 65536)
    (v0 : FVec Ideal S1x16x65536 .f32) (i j : Fin 3) (c : Fin 16) (l : Fin 8192) (k : ℕ) (hk : k < 9) (hk' : k = 3 * i + j)
    (n : BitVec 32) (v : FVec Ideal S16x65536 .f32)
    (hx : (patchL o hs (k0_pay1 v0) (k0_pay3 v0) (k0_pay4 v0))[k]'(by show k < 10; omega) = ⟨S16x8192, turned o hs n v⟩)
    (hpre : ((((patchL o hs (k0_pay1 v0) (k0_pay3 v0) (k0_pay4 v0)).take k).map (·.1)).map fun s => if h : s.rank = S145x8192.rank then s.size ((0 : Fin S145x8192.rank).cast h.symm) else 0).sum = 16 * k)
    (h2 : ∀ p, v (ix2 c p) = v0 (ix3 0 c (nb 1 j p)))
    (h3 : ∀ p : Fin 65536, nb 1 j ⟨(p + 65536 - n.toNat % 65536) % 65536, Nat.mod_lt _ (by norm_num)⟩ = nb i j p) :
    patchV o hs (k0_pay1 v0) (k0_pay3 v0) (k0_pay4 v0) (ix2 ⟨48 * i + 16 * j + c, by omega⟩ l)
      = v0 (ix3 0 c (nb i j ⟨o + l, by omega⟩)) := by
  have h1 := patchV_piece o hs ho _ _ _ k hk n v hx hpre c l
  rw [← h3, ← h2, ← h1]
  congr 2
  exact Fin.ext (by simp only [hk']; omega)

/-- The patch matrix's row of tap `(i, j)` and channel `c` holds the state's channel `c` at the tap's pixel. -/
theorem patchV_at (o : ℕ) (hs : S16x65536.Slices ![0, o] S16x8192) (ho : o + 8192 ≤ 65536)
    (v0 : FVec Ideal S1x16x65536 .f32) (i j : Fin 3) (c : Fin 16) (l : Fin 8192) :
    patchV o hs (k0_pay1 v0) (k0_pay3 v0) (k0_pay4 v0) (ix2 ⟨48 * i + 16 * j + c, by omega⟩ l)
      = v0 (ix3 0 c (nb i j ⟨o + l, by omega⟩)) := by
  have c1 : ∀ p, k0_pay1 (F := Ideal) v0 (ix2 c p) = v0 (ix3 0 c (nb 1 1 p)) := fun p => by rw [nb_mid, mid_at]
  have H := patchV_tap o hs ho v0
  match i, j with
  | 0, 0 => exact H 0 0 c l 0 (by norm_num) rfl 256#32 _ rfl rfl (left_at v0 c) (nb_up 0)
  | 0, 1 => exact H 0 1 c l 1 (by norm_num) rfl 256#32 _ rfl rfl c1 (nb_up 1)
  | 0, 2 => exact H 0 2 c l 2 (by norm_num) rfl 256#32 _ rfl rfl (right_at v0 c) (nb_up 2)
  | 1, 0 => exact H 1 0 c l 3 (by norm_num) rfl 0#32 _ rfl rfl (left_at v0 c) (nb_same 0)
  | 1, 1 => exact H 1 1 c l 4 (by norm_num) rfl 0#32 _ rfl rfl c1 (nb_same 1)
  | 1, 2 => exact H 1 2 c l 5 (by norm_num) rfl 0#32 _ rfl rfl (right_at v0 c) (nb_same 2)
  | 2, 0 => exact H 2 0 c l 6 (by norm_num) rfl 65280#32 _ rfl rfl (left_at v0 c) (nb_down 0)
  | 2, 1 => exact H 2 1 c l 7 (by norm_num) rfl 65280#32 _ rfl rfl c1 (nb_down 1)
  | 2, 2 => exact H 2 2 c l 8 (by norm_num) rfl 65280#32 _ rfl rfl (right_at v0 c) (nb_down 2)

/-- A sum over the patch matrix's rows is the sum over taps and channels, plus the row of ones. -/
theorem sum145 (f : Fin 145 → EReal) :
    ∑ q, f q = (∑ i : Fin 3, ∑ j : Fin 3, ∑ c : Fin 16, f ⟨48 * i + 16 * j + c, by omega⟩) + f 144 := by
  rw [Fin.sum_univ_castSucc, Fin.sum_univ_tiles 3 48 rfl]
  refine congrArg (· + _) (Finset.sum_congr rfl fun i _ => ?_)
  rw [Fin.sum_univ_tiles 3 16 rfl]
  refine Finset.sum_congr rfl fun j _ => Finset.sum_congr rfl fun c _ => congrArg f (Fin.ext ?_)
  simp only [Fin.val_castSucc]
  omega

end Cert.Proof

end
-- ==== Proof.Alive.lean ====
/- The 3x3 maximum pool of the kernel, read as a condition on a pixel: some pixel of its window exceeds the threshold. -/
module

public import proofs.«01_k».proof.Proof.Chunk

@[expose] public section

set_option maxRecDepth 16384

noncomputable section

namespace Cert.Proof

open Idealize.ShloMosaic Idealize.ShloMosaic.TcCoe Idealize.SL.Sem
open Cert.KernelIdeal Cert.KernelIdeal.Gen

/-- The threshold of life: the 32-bit float nearest 0.1. -/
def thr : EReal := Ideal.ofBits .f32 0x3DCCCCCD#32

/-- The kernel's padding value: the 32-bit float nearest -3.0e38. -/
def low : EReal := Ideal.ofBits .f32 0xFF61B1E6#32

/-- The kernel's padding value is not above the threshold. -/
theorem low_le_thr : low ≤ thr := by
  have h1 : low ≤ 0 := by
    have e : low = (((-1 : ℝ) * ((2 ^ 23 + 6402534 : ℕ) : ℝ) * (2 : ℝ) ^ ((254 : Int) - 127 - 23) : ℝ) : EReal) := by
      simp [low, Ideal.ofBits, Ideal.ieee]
    rw [e]
    refine EReal.coe_nonpos.2 ?_
    have : (0:ℝ) ≤ ((2 ^ 23 + 6402534 : ℕ) : ℝ) * (2 : ℝ) ^ ((254 : Int) - 127 - 23) := by positivity
    linarith
  have h2 : 0 ≤ thr := by
    have e : thr = (((1 : ℝ) * ((2 ^ 23 + 5033165 : ℕ) : ℝ) * (2 : ℝ) ^ ((123 : Int) - 127 - 23) : ℝ) : EReal) := by
      simp [thr, Ideal.ofBits, Ideal.ieee]
    rw [e]
    refine EReal.coe_nonneg.2 ?_
    positivity
  exact h1.trans h2

/-- Whether the row (or column) at offset `i - 1` of row `h` lies on the grid of 256. -/
def inside (i : Fin 3) (h : ℕ) : Prop := 1 ≤ h + i ∧ h + i ≤ 256

/-- A pixel is alive: some pixel of its 3x3 window on the grid exceeds the threshold. -/
def alive (Y : Fin 65536 → EReal) (p : Fin 65536) : Prop :=
  ∃ i j : Fin 3, inside i (p / 256) ∧ inside j (p % 256) ∧ thr < Y (nb i j p)

/-- The maximum over the three rows. -/
def rowsV (top bot : IVec S1x65536 1) (a : FVec Ideal S1x65536 .f32) : FVec Ideal S1x65536 .f32 :=
  maximumf (maximumf (select top (broadcast S1x65536 (Scalar.ofBits .f32 0xFF61B1E6#32)) (dynamicRotate 1 256#32 none a rotates_S1x65536_d1))
    (select bot (broadcast S1x65536 (Scalar.ofBits .f32 0xFF61B1E6#32)) (dynamicRotate 1 65280#32 none a rotates_S1x65536_d1))) a

/-- The maximum over the three columns. -/
def colsV (first last : IVec S1x65536 1) (a : FVec Ideal S1x65536 .f32) : FVec Ideal S1x65536 .f32 :=
  maximumf (maximumf (select last (broadcast S1x65536 (Scalar.ofBits .f32 0xFF61B1E6#32)) (dynamicRotate 1 65535#32 none a rotates_S1x65536_d1))
    (select first (broadcast S1x65536 (Scalar.ofBits .f32 0xFF61B1E6#32)) (dynamicRotate 1 1#32 none a rotates_S1x65536_d1))) a

/-- The pool compared with the threshold. -/
def poolV (a : FVec Ideal S1x65536 .f32) : IVec S1x65536 1 :=
  cmpf .ogt (colsV k0_pay48 k0_pay49 (rowsV k0_pay50 k0_pay51 a)) (broadcast S1x65536 (Scalar.ofBits .f32 0x3DCCCCCD#32) : FVec Ideal S1x65536 .f32)

/-- The first pool is that of channel 3 of the state. -/
theorem pay52_eq (v1 : FVec Ideal S16x65536 .f32) :
    k0_pay52 (F := Ideal) v1 = poolV (extractStridedSlice S1x65536 ![3, 0] v1 slices_S16x65536_o3_0_S1x65536) := rfl

/-- The last store keeps the new state where both pools hold. -/
theorem pay53_eq (v373 : IVec S1x65536 1) (v374 : FVec Ideal S1x1x65536 .f32) (v395 : FVec Ideal S1x16x65536 .f32) :
    k0_pay53 (F := Ideal) k0_pay48 k0_pay49 k0_pay50 k0_pay51 v373 v374 v395
      = shapeCast S1x16x65536 (select (broadcastTo S16x65536 (shapeCast S1x65536 (andi v373 (poolV (shapeCast S1x65536 v374 shapeCasts_S1x1x65536_S1x65536))) shapeCasts_S1x65536_S1x65536) broadcasts_S1x65536_S16x65536)
          (shapeCast S16x65536 v395 shapeCasts_S1x16x65536_S16x65536) (broadcast S16x65536 (Scalar.ofBits .f32 0x00000000#32))) shapeCasts_S16x65536_S1x16x65536 := rfl

/-- A rotation of one row of pixels, read at a pixel. -/
theorem rot1_at (n : BitVec 32) (v : FVec Ideal S1x65536 .f32) (p : Fin 65536) :
    dynamicRotate 1 n none v rotates_S1x65536_d1 (ix2 0 p)
      = v (ix2 0 ⟨(p + 65536 - n.toNat % 65536) % 65536, Nat.mod_lt _ (by norm_num)⟩) := by
  pointwise

/-- The mask of the first column, read at a pixel. -/
theorem first_iff (p : Fin 65536) : k0_pay48 (ix2 0 p) = 1#1 ↔ (p : ℕ) % 256 = 0 := by
  pointwise [k0_pay48, k0_pay47]
  exact col_eq_iff p _
/-- The mask of the last column, read at a pixel. -/
theorem last_iff (p : Fin 65536) : k0_pay49 (ix2 0 p) = 1#1 ↔ (p : ℕ) % 256 = 255 := by
  pointwise [k0_pay49, k0_pay47]
  exact col_eq_iff p _
/-- The mask of the first row, read at a pixel. -/
theorem top_iff (p : Fin 65536) : k0_pay50 (ix2 0 p) = 1#1 ↔ (p : ℕ) < 256 := by
  pointwise [k0_pay50]
  exact WordCmp.cmpi_slt_ofNat_eq_one_iff (by omega) (by norm_num)
/-- The mask of the last row, read at a pixel. -/
theorem bot_iff (p : Fin 65536) : k0_pay51 (ix2 0 p) = 1#1 ↔ 65280 ≤ (p : ℕ) := by
  pointwise [k0_pay51]
  exact WordCmp.cmpi_sge_ofNat_eq_one_iff (by omega) (by norm_num)

/-- Above the threshold where a masked value is: off the mask, and the value is. -/
theorem lt_masked (b : BitVec 1) (y : EReal) : thr < Scalar.select b low y ↔ ¬ b = 1#1 ∧ thr < y := by
  show thr < (if b = 1 then low else y) ↔ _
  by_cases h : b = 1
  · rw [if_pos h]; exact ⟨fun h' => absurd h' (not_lt.2 low_le_thr), fun h' => absurd h h'.1⟩
  · rw [if_neg h]; exact ⟨fun h' => ⟨h, h'⟩, fun h' => h'.2⟩

/-- An offset of the window is one of three. -/
theorem fin3 : ∀ i : Fin 3, i = 0 ∨ i = 1 ∨ i = 2 := by decide

/-- The row maximum exceeds the threshold when one of the three rows on the grid does. -/
theorem rows_iff (a : FVec Ideal S1x65536 .f32) (p : Fin 65536) :
    thr < rowsV k0_pay50 k0_pay51 a (ix2 0 p) ↔ ∃ i : Fin 3, inside i (p / 256) ∧ thr < a (ix2 0 (nb i 1 p)) := by
  show thr < max (max (Scalar.select _ low _) (Scalar.select _ low _)) _ ↔ _
  rw [lt_max_iff, lt_max_iff, lt_masked, lt_masked, rot1_at, rot1_at, top_iff, bot_iff]
  have e0 : (⟨(p + 65536 - (256#32).toNat % 65536) % 65536, Nat.mod_lt _ (by norm_num)⟩ : Fin 65536) = nb 0 1 p := by
    have := nb_up 1 p; rwa [nb_mid] at this
  have e2 : (⟨(p + 65536 - (65280#32).toNat % 65536) % 65536, Nat.mod_lt _ (by norm_num)⟩ : Fin 65536) = nb 2 1 p := by
    have := nb_down 1 p; rwa [nb_mid] at this
  rw [e0, e2]
  constructor
  · rintro ((⟨h, h'⟩ | ⟨h, h'⟩) | h')
    · exact ⟨0, ⟨by simp only [Fin.val_zero]; omega, by simp only [Fin.val_zero]; omega⟩, h'⟩
    · exact ⟨2, ⟨by simp only [Fin.val_two]; omega, by simp only [Fin.val_two]; omega⟩, h'⟩
    · exact ⟨1, ⟨by simp only [Fin.val_one]; omega, by simp only [Fin.val_one]; omega⟩, by rwa [nb_mid]⟩
  · rintro ⟨i, ⟨h1, h2⟩, h'⟩
    obtain rfl | rfl | rfl := fin3 i
    · exact .inl (.inl ⟨by simp only [Fin.val_zero] at h1; omega, h'⟩)
    · exact .inr (by rwa [nb_mid] at h')
    · exact .inl (.inr ⟨by simp only [Fin.val_two] at h2; omega, h'⟩)

/-- The column maximum exceeds the threshold when one of the three columns on the grid does. -/
theorem cols_iff (a : FVec Ideal S1x65536 .f32) (p : Fin 65536) :
    thr < colsV k0_pay48 k0_pay49 a (ix2 0 p) ↔
      ∃ j : Fin 3, inside j (p % 256) ∧ thr < a (ix2 0 (nb 1 j p)) := by
  show thr < max (max (Scalar.select _ low _) (Scalar.select _ low _)) _ ↔ _
  rw [lt_max_iff, lt_max_iff, lt_masked, lt_masked, rot1_at, rot1_at, first_iff, last_iff]
  have e2 : ∀ _ : ¬ (p : ℕ) % 256 = 255, (⟨(p + 65536 - (65535#32).toNat % 65536) % 65536, Nat.mod_lt _ (by norm_num)⟩ : Fin 65536) = nb 1 2 p := by
    intro h
    have e : (65535#32).toNat = 65535 := rfl
    simp only [nb, Fin.ext_iff, Fin.val_one, Fin.val_two, e]
    omega
  have e0 : ∀ _ : ¬ (p : ℕ) % 256 = 0, (⟨(p + 65536 - (1#32).toNat % 65536) % 65536, Nat.mod_lt _ (by norm_num)⟩ : Fin 65536) = nb 1 0 p := by
    intro h
    have e : (1#32).toNat = 1 := rfl
    simp only [nb, Fin.ext_iff, Fin.val_one, Fin.val_zero, e]
    omega
  constructor
  · rintro ((⟨h, h'⟩ | ⟨h, h'⟩) | h')
    · exact ⟨2, ⟨by simp only [Fin.val_two]; omega, by simp only [Fin.val_two]; omega⟩, by rwa [← e2 h]⟩
    · exact ⟨0, ⟨by simp only [Fin.val_zero]; omega, by simp only [Fin.val_zero]; omega⟩, by rwa [← e0 h]⟩
    · exact ⟨1, ⟨by simp only [Fin.val_one]; omega, by simp only [Fin.val_one]; omega⟩, by rwa [nb_mid]⟩
  · rintro ⟨i, ⟨h1, h2⟩, h'⟩
    obtain rfl | rfl | rfl := fin3 i
    · have h : ¬ (p : ℕ) % 256 = 0 := by simp only [Fin.val_zero] at h1; omega
      exact .inl (.inr ⟨h, by rwa [← e0 h] at h'⟩)
    · exact .inr (by rwa [nb_mid] at h')
    · have h : ¬ (p : ℕ) % 256 = 255 := by simp only [Fin.val_two] at h2; omega
      exact .inl (.inl ⟨h, by rwa [← e2 h] at h'⟩)

/-- A row step after a column step. -/
theorem nb_nb (i j : Fin 3) (p : Fin 65536) : nb i 1 (nb 1 j p) = nb i j p := by
  simp only [nb, Fin.ext_iff, Fin.val_one]
  omega

/-- A column step stays in its row. -/
theorem nb_row (j : Fin 3) (p : Fin 65536) : (nb 1 j p : ℕ) / 256 = p / 256 := by
  simp only [nb, Fin.val_one]
  omega

/-- The pool's bit is set exactly at the alive pixels. -/
theorem pool_iff (a : FVec Ideal S1x65536 .f32) (p : Fin 65536) :
    poolV a (ix2 0 p) = 1#1 ↔ alive (fun q => a (ix2 0 q)) p := by
  have h : poolV a (ix2 0 p) = 1#1 ↔ thr < colsV k0_pay48 k0_pay49 (rowsV k0_pay50 k0_pay51 a) (ix2 0 p) := by
    show BitVec.ofBool (decide (thr < colsV k0_pay48 k0_pay49 (rowsV k0_pay50 k0_pay51 a) (ix2 0 p))) = 1#1 ↔ _
    exact WordCmp.ofBool_decide_eq_one_iff _
  rw [h, cols_iff]
  simp only [rows_iff, nb_nb, nb_row]
  constructor
  · rintro ⟨j, hj, i, hi, h'⟩; exact ⟨i, j, hi, hj, h'⟩
  · rintro ⟨i, j, hi, hj, h'⟩; exact ⟨j, hj, i, hi, h'⟩

/-- The conjunction of two bits. -/
theorem andi_one (b d : BitVec 1) : IntOp.andi b d = 1#1 ↔ b = 1#1 ∧ d = 1#1 := by
  revert b d
  decide

open Classical in
/-- The last store at a channel and a pixel. -/
theorem last_at (v1 : FVec Ideal S16x65536 .f32) (v374 : FVec Ideal S1x1x65536 .f32) (v395 : FVec Ideal S1x16x65536 .f32)
    (c : Fin 16) (p : Fin 65536) :
    k0_pay53 (F := Ideal) k0_pay48 k0_pay49 k0_pay50 k0_pay51 (k0_pay52 v1) v374 v395 (ix3 0 c p)
      = if alive (fun q => v1 (ix2 3 q)) p ∧ alive (fun q => v374 (ix3 0 0 q)) p then v395 (ix3 0 c p) else 0 := by
  rw [pay53_eq, pay52_eq]
  have e1 : ∀ q, extractStridedSlice S1x65536 ![3, 0] v1 slices_S16x65536_o3_0_S1x65536 (ix2 0 q) = v1 (ix2 3 q) := by
    intro q; pointwise
  have e2 : ∀ q, shapeCast S1x65536 v374 shapeCasts_S1x1x65536_S1x65536 (ix2 0 q) = v374 (ix3 0 0 q) := by
    intro q; pointwise
  simp only [← e1, ← e2, ← pool_iff]
  pointwise
  exact if_congr (andi_one _ _) rfl rfl

end Cert.Proof

end
-- ==== Proof.Spec.lean ====
/- What the kernel computes for one image of the batch, as functions of a channel and a pixel. -/
module

public import proofs.«01_k».proof.Proof.Alive

@[expose] public section

noncomputable section

namespace Cert.Proof

open Idealize.ShloMosaic

/-- The float one half as its 32-bit word reads. -/
def half : EReal := Ideal.ofBits .f32 0x3F000000#32

/-- Hidden unit `o` at pixel `p`: the patch of 9 taps times 16 channels against a row of `A`, plus the bias, rectified. -/
def hid (X : Fin 16 → Fin 65536 → EReal) (A : Fin 128 → Fin 145 → EReal) (o : Fin 128) (p : Fin 65536) : EReal :=
  max ((∑ i : Fin 3, ∑ j : Fin 3, ∑ c : Fin 16, A o ⟨48 * i + 16 * j + c, by omega⟩ * X c (nb i j p)) + A o 144) 0

/-- The updated state: the old one plus the masked output of the two layers. -/
def upd (X : Fin 16 → Fin 65536 → EReal) (R : Fin 65536 → EReal) (A : Fin 128 → Fin 145 → EReal)
    (B : Fin 16 → Fin 129 → EReal) (c : Fin 16) (p : Fin 65536) : EReal :=
  X c p + if R p ≤ half then (∑ o : Fin 128, B c ⟨o, by omega⟩ * hid X A o p) + B c 128 else 0

open Classical in
/-- The result: the updated state where the pixel was alive before and is alive after, zero elsewhere. -/
def out (X : Fin 16 → Fin 65536 → EReal) (R : Fin 65536 → EReal) (A : Fin 128 → Fin 145 → EReal)
    (B : Fin 16 → Fin 129 → EReal) (c : Fin 16) (p : Fin 65536) : EReal :=
  if alive (X 3) p ∧ alive (upd X R A B 3) p then upd X R A B c p else 0

end Cert.Proof

end
-- ==== Proof.Block.lean ====
/- What one grid point of the kernel leaves in its output block: the result for one image of the batch. -/
module

public import proofs.«01_k».proof.Proof.Spec
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

section
variable (v0 : FVec Ideal S1x16x65536 .f32) (R : FVec Ideal S1x1x65536 .f32) (wa : FVec Ideal S128x145 .f32) (wb : FVec Ideal S16x129 .f32)

/-- The updated state of the block, over the block's index. -/
def updB (y : S1x16x65536.Idx) : EReal :=
  upd (fun c p => v0 (ix3 0 c p)) (fun p => R (ix3 0 0 p)) (fun o q => wa (ix2 o q)) (fun c o => wb (ix2 c o)) (y 1) (y 2)

/-- The result of the block, over the block's index. -/
def outB (y : S1x16x65536.Idx) : EReal :=
  out (fun c p => v0 (ix3 0 c p)) (fun p => R (ix3 0 0 p)) (fun o q => wa (ix2 o q)) (fun c o => wb (ix2 c o)) (y 1) (y 2)

/-- A chunk's stored value at a channel and a pixel of the chunk. -/
theorem chunk_at (o : ℕ) (hs : S16x65536.Slices ![0, o] S16x8192) (ho : o + 8192 ≤ 65536)
    (r : FVec Ideal S1x1x8192 .f32) (hr : ∀ l : Fin 8192, r (ix3 0 0 l) = R (ix3 0 0 ⟨o + l, by omega⟩)) (c : Fin 16) (l : Fin 8192) :
    chunkV o hs (k0_pay1 v0) (k0_pay3 v0) (k0_pay4 v0) wa wb r (ix3 0 c l) = updB v0 R wa wb (ix3 0 c ⟨o + l, by omega⟩) := by
  unfold chunkV
  rw [updV_at o hs ho, hr, mid_at]
  simp only [sum145, patchV_at o hs ho, patchV_last, mul_one]
  rfl

/-- A chunk's stored value over the chunk's own index. -/
theorem piece_at (o : ℕ) (hs : S16x65536.Slices ![0, o] S16x8192) (ho : o + 8192 ≤ 65536)
    (hi : ∀ a : Fin S1x16x65536.rank, (![0, 0, o] : Fin 3 → ℕ) a + (![1, 16, 8192] : Fin 3 → ℕ) a ≤ S1x16x65536.size a)
    (r : FVec Ideal S1x1x8192 .f32) (hr : ∀ l : Fin 8192, r (ix3 0 0 l) = R (ix3 0 0 ⟨o + l, by omega⟩))
    (x : S1x16x8192.Idx) :
    chunkV o hs (k0_pay1 v0) (k0_pay3 v0) (k0_pay4 v0) wa wb r x
      = updB v0 R wa wb ((Rect.unit (s := S1x16x65536) ![0, 0, o] ![1, 16, 8192] hi).emb x) := by
  idx_vars x
  obtain rfl : x0 = 0 := Subsingleton.elim _ _
  rw [chunk_at v0 R wa wb o hs ho r hr]
  refine congrArg _ (funext fun a => Fin.ext ?_)
  match a with
  | 0 => rfl
  | 1 => show (x1 : ℕ) = 0 + 1 * (x1 : ℕ); omega
  | 2 => show o + (x2 : ℕ) = o + 1 * (x2 : ℕ); omega

open Classical in
/-- The block the body leaves: with the eight chunks holding the updated state, the last store is the result. -/
theorem block_of {sp : Space} (v : View sig .tc sp S1x16x65536 .f32) (L : List (View.Piece (Elt Ideal) S1x16x65536 .f32))
    (hL : ∀ p ∈ L, ∀ x : p.1.shape.Idx, p.2 x = updB v0 R wa wb (p.1.emb x)) (hc : ∀ y, ∃ p ∈ L, y ∈ p.1.set)
    (h3 : ∀ a : Fin S1x16x65536.rank, (![0, 3, 0] : Fin 3 → ℕ) a + (![1, 1, 65536] : Fin 3 → ℕ) a ≤ S1x16x65536.size a)
    (h0 : ∀ a : Fin S1x16x65536.rank, (![0, 0, 0] : Fin 3 → ℕ) a + (![1, 16, 65536] : Fin 3 → ℕ) a ≤ S1x16x65536.size a)
    (y : S1x16x65536.Idx) :
    k0_pay53 (F := Ideal) k0_pay48 k0_pay49 k0_pay50 k0_pay51 (k0_pay52 (F := Ideal) (k0_pay1 (F := Ideal) v0))
        (v.readCov L (Rect.unit (s := S1x16x65536) ![0, 3, 0] ![1, 1, 65536] h3).toLoadRect)
        (v.readCov L (Rect.unit (s := S1x16x65536) ![0, 0, 0] ![1, 16, 65536] h0).toLoadRect) y
      = outB v0 R wa wb y := by
  rw [View.readCov_eq_canon', View.readCov_eq_canon']
  have hU : ∀ y, View.canon L y = updB v0 R wa wb y := fun y => View.canon_apply_of_pieces _ L hL y (hc y)
  simp only [hU]
  idx_vars y
  obtain rfl : y0 = 0 := Subsingleton.elim _ _
  rw [last_at]
  have e3 : ∀ q : Fin 65536, (Rect.unit (s := S1x16x65536) ![0, 3, 0] ![1, 1, 65536] h3).toLoadRect.idx (ix3 0 0 q) = (ix3 0 3 q : S1x16x65536.Idx) := by
    intro q
    funext a
    refine Fin.ext ?_
    match a with
    | 0 => rfl
    | 1 => rfl
    | 2 => show 0 + 1 * (q : ℕ) = q; omega
  have e0 : (Rect.unit (s := S1x16x65536) ![0, 0, 0] ![1, 16, 65536] h0).toLoadRect.idx (ix3 0 y1 y2) = (ix3 0 y1 y2 : S1x16x65536.Idx) := by
    funext a
    refine Fin.ext ?_
    match a with
    | 0 => rfl
    | 1 => show 0 + 1 * (y1 : ℕ) = y1; omega
    | 2 => show 0 + 1 * (y2 : ℕ) = y2; omega
  have g3 : (fun q : Fin 65536 => updB v0 R wa wb ((Rect.unit (s := S1x16x65536) ![0, 3, 0] ![1, 1, 65536] h3).toLoadRect.idx (ix3 0 0 q)))
      = upd (fun c p => v0 (ix3 0 c p)) (fun p => R (ix3 0 0 p)) (fun o q => wa (ix2 o q)) (fun c o => wb (ix2 c o)) 3 :=
    funext fun q => congrArg (updB v0 R wa wb) (e3 q)
  have g1 : (fun q : Fin 65536 => k0_pay1 (F := Ideal) v0 (ix2 3 q)) = fun q => v0 (ix3 0 3 q) := funext fun q => mid_at v0 3 q
  have g0 : updB v0 R wa wb ((Rect.unit (s := S1x16x65536) ![0, 0, 0] ![1, 16, 65536] h0).toLoadRect.idx (ix3 0 y1 y2))
      = updB v0 R wa wb (ix3 0 y1 y2) := congrArg (updB v0 R wa wb) e0
  refine (if_congr ?_ g0 rfl).trans rfl
  exact and_congr (iff_of_eq (congrArg (alive · y2) g1)) (iff_of_eq (congrArg (alive · y2) g3))
end

end Cert.Proof

end
-- ==== Proof.Final.lean ====
/- What the kernel's output array holds after the run of its 32 grid points. -/
module

public import proofs.«01_k».proof.Proof.Block
public import proofs.«01_k».proof.Proof.Gen.KernelIdeal.Frame

@[expose] public section

set_option maxRecDepth 65536

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The output array: image `b`'s result at each channel and pixel, from the four operands. -/
def outG (X : FVec Ideal S32x16x65536 .f32) (R : FVec Ideal S32x1x65536 .f32) (A : FVec Ideal S128x145 .f32)
    (B : FVec Ideal S16x129 .f32) : FVec Ideal S32x16x65536 .f32 := fun y =>
  out (fun c p => X (ix3 (y 0) c p)) (fun p => R (ix3 (y 0) 0 p)) (fun o q => A (ix2 o q)) (fun c o => B (ix2 c o)) (y 1) (y 2)

set_option maxHeartbeats 1600000 in
/-- One grid point leaves its image's result in its output block. -/
theorem point (c : Dev nD) (t : Fin cfg0.N) (y : S1x16x65536.Idx) :
    outsAt0 m c t y = outB (iblk m c 0 t) (iblk m c 1 t) (iblk m c 2 t) (iblk m c 3 t) y := by
  unfold Gen.outsAt0
  frame_out
  refine block_of (iblk m c 0 t) (iblk m c 1 t) (iblk m c 2 t) (iblk m c 3 t) _ _ ?_ (View.cover_of_tiledBy _ ![1, 16, 8192] (by sl_kernel_rfl)) _ _ y
  simp only [List.forall_mem_cons]
  refine ⟨fun x => (congrFun (pay_chunk7 (iblk m c 2 t) (iblk m c 3 t) _ (k0_pay1 (iblk m c 0 t)) (k0_pay3 (iblk m c 0 t)) (k0_pay4 (iblk m c 0 t))) x).trans (piece_at _ (iblk m c 1 t) _ _ 57344 _ (by norm_num) _ _ (by intro l; pointwise) x),
    fun x => (congrFun (pay_chunk6 (iblk m c 2 t) (iblk m c 3 t) _ (k0_pay1 (iblk m c 0 t)) (k0_pay3 (iblk m c 0 t)) (k0_pay4 (iblk m c 0 t))) x).trans (piece_at _ (iblk m c 1 t) _ _ 49152 _ (by norm_num) _ _ (by intro l; pointwise) x),
    fun x => (congrFun (pay_chunk5 (iblk m c 2 t) (iblk m c 3 t) _ (k0_pay1 (iblk m c 0 t)) (k0_pay3 (iblk m c 0 t)) (k0_pay4 (iblk m c 0 t))) x).trans (piece_at _ (iblk m c 1 t) _ _ 40960 _ (by norm_num) _ _ (by intro l; pointwise) x),
    fun x => (congrFun (pay_chunk4 (iblk m c 2 t) (iblk m c 3 t) _ (k0_pay1 (iblk m c 0 t)) (k0_pay3 (iblk m c 0 t)) (k0_pay4 (iblk m c 0 t))) x).trans (piece_at _ (iblk m c 1 t) _ _ 32768 _ (by norm_num) _ _ (by intro l; pointwise) x),
    fun x => (congrFun (pay_chunk3 (iblk m c 2 t) (iblk m c 3 t) _ (k0_pay1 (iblk m c 0 t)) (k0_pay3 (iblk m c 0 t)) (k0_pay4 (iblk m c 0 t))) x).trans (piece_at _ (iblk m c 1 t) _ _ 24576 _ (by norm_num) _ _ (by intro l; pointwise) x),
    fun x => (congrFun (pay_chunk2 (iblk m c 2 t) (iblk m c 3 t) _ (k0_pay1 (iblk m c 0 t)) (k0_pay3 (iblk m c 0 t)) (k0_pay4 (iblk m c 0 t))) x).trans (piece_at _ (iblk m c 1 t) _ _ 16384 _ (by norm_num) _ _ (by intro l; pointwise) x),
    fun x => (congrFun (pay_chunk1 (iblk m c 2 t) (iblk m c 3 t) _ (k0_pay1 (iblk m c 0 t)) (k0_pay3 (iblk m c 0 t)) (k0_pay4 (iblk m c 0 t))) x).trans (piece_at _ (iblk m c 1 t) _ _ 8192 _ (by norm_num) _ _ (by intro l; pointwise) x),
    fun x => (congrFun (pay_chunk0 (iblk m c 0 t) (iblk m c 2 t) (iblk m c 3 t) _ ) x).trans (piece_at _ (iblk m c 1 t) _ _ 0 _ (by norm_num) _ _ (by intro l; pointwise) x), List.forall_mem_nil _⟩

/-- Where each window's block stands at grid point `t`: the image windows move with the point, the weight windows stay. -/
theorem idx (t : Fin cfg0.N) :
    (win0_0.index t 0 = t.val ∧ win0_0.index t 1 = 0 ∧ win0_0.index t 2 = 0) ∧
    (win0_1.index t 0 = t.val ∧ win0_1.index t 1 = 0 ∧ win0_1.index t 2 = 0) ∧
    (win0_2.index t 0 = 0 ∧ win0_2.index t 1 = 0) ∧ (win0_3.index t 0 = 0 ∧ win0_3.index t 1 = 0) ∧
    (win0_4.index t 0 = t.val ∧ win0_4.index t 1 = 0 ∧ win0_4.index t 2 = 0) := by
  revert t
  decide +kernel

set_option maxHeartbeats 1600000 in
/-- The output array after the run. -/
theorem final (c : Dev nD) : (dats m 0 c).arrAt 4 cfg0.N = outG (V m c main_v9) (V m c main_v10) (V m c main_v6) (V m c main_v8) := by
  refine (dats m 0 c).arrAt_eq_of_covers 4 _ (by decide +kernel) fun t _ y => ?_
  blk_simp
  rw [after0_4, point]
  have h0 : (fun (k : Fin 16) (p : Fin 65536) => (iblk m c 0 t : FVec Ideal S1x16x65536 .f32) (ix3 0 k p))
      = fun k p => (V m c main_v9 : FVec Ideal S32x16x65536 .f32) (ix3 ⟨t, t.isLt⟩ k p) := by
    funext k p
    blk_ext [iblk, idx t]
  have h1 : (fun (p : Fin 65536) => (iblk m c 1 t : FVec Ideal S1x1x65536 .f32) (ix3 0 0 p))
      = fun p => (V m c main_v10 : FVec Ideal S32x1x65536 .f32) (ix3 ⟨t, t.isLt⟩ 0 p) := by
    funext p
    blk_ext [iblk, idx t]
  have h2 : (fun (o : Fin 128) (q : Fin 145) => (iblk m c 2 t : FVec Ideal S128x145 .f32) (ix2 o q))
      = fun o q => (V m c main_v6 : FVec Ideal S128x145 .f32) (ix2 o q) := by
    funext o q
    blk_ext [iblk, idx t]
  have h3 : (fun (k : Fin 16) (o : Fin 129) => (iblk m c 3 t : FVec Ideal S16x129 .f32) (ix2 k o))
      = fun k o => (V m c main_v8 : FVec Ideal S16x129 .f32) (ix2 k o) := by
    funext k o
    blk_ext [iblk, idx t]
  have e : outB (iblk m c 0 t) (iblk m c 1 t) (iblk m c 2 t) (iblk m c 3 t) y
      = outG (V m c main_v9) (V m c main_v10) (V m c main_v6) (V m c main_v8) (ix3 ⟨t, t.isLt⟩ (y 1) (y 2)) := by
    unfold outB
    rw [h0, h1, h2, h3]
    rfl
  rw [e]
  blk_ext [idx t]

end Cert.Proof

end
-- ==== Proof.Host.lean ====
/- The kernel's host code around its grid: the operands it prepares, and the result after the last reshape. -/
module

public import proofs.«01_k».proof.Proof.Final
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

/-- The first layer's matrix: the filters folded into the weights, tap by tap, and the bias as a last column. -/
def opA (wp : FVec Ideal S48x1x3x3 .f32) (w1 : FVec Ideal S128x48 .f32) (b1 : FVec Ideal S128 .f32) : FVec Ideal S128x145 .f32 :=
  concatenate S128x145 1 [⟨S128x144, shapeCast S128x144 (transpose S128x3x3x16 [3, 1, 2, 0] (Host.dotGeneral (F := Ideal) (φ₁ := .f32) (φ₂ := .f32) dot_S16x3x3x3_S128x16x3_S16x3x3x128_1_2_23_0_0_1 none (shapeCast S16x3x3x3 wp shapeCasts_S48x1x3x3_S16x3x3x3) (shapeCast S128x16x3 w1 shapeCasts_S128x48_S128x16x3)) transposes_S16x3x3x128_S128x3x3x16_3_1_2_0) shapeCasts_S128x3x3x16_S128x144⟩,
    ⟨S128x1, broadcastInDim S128x1 ![0] bcast_S128_S128x1_0 b1⟩] concatenates_S128x144_S128x1_S128x145_d1

/-- The second layer's matrix: the weights and the bias as a last column. -/
def opB (w2 : FVec Ideal S16x128 .f32) (b2 : FVec Ideal S16 .f32) : FVec Ideal S16x129 .f32 :=
  concatenate S16x129 1 [⟨S16x128, w2⟩, ⟨S16x1, broadcastInDim S16x1 ![0] bcast_S16_S16x1_0 b2⟩] concatenates_S16x128_S16x1_S16x129_d1

/-- The kernel's result from its seven arguments. -/
def kerOut (x : FVec Ideal S32x16x256x256 .f32) (rand : FVec Ideal S32x1x256x256 .f32) (wp : FVec Ideal S48x1x3x3 .f32)
    (w1 : FVec Ideal S128x48 .f32) (b1 : FVec Ideal S128 .f32) (w2 : FVec Ideal S16x128 .f32) (b2 : FVec Ideal S16 .f32) :
    FVec Ideal S32x16x256x256 .f32 :=
  shapeCast S32x16x256x256 (outG (shapeCast S32x16x65536 x shapeCasts_S32x16x256x256_S32x16x65536)
    (shapeCast S32x1x65536 rand shapeCasts_S32x1x256x256_S32x1x65536) (opA wp w1 b1) (opB w2 b2)) shapeCasts_S32x16x65536_S32x16x256x256

/-- A folded weight: the sum over the channel's three filters. -/
theorem opA_tap (wp : FVec Ideal S48x1x3x3 .f32) (w1 : FVec Ideal S128x48 .f32) (b1 : FVec Ideal S128 .f32)
    (o : Fin 128) (i j : Fin 3) (c : Fin 16) :
    opA wp w1 b1 (ix2 o ⟨48 * i + 16 * j + c, by omega⟩)
      = ∑ k : Fin 3, wp (ix4 ⟨c * 3 + k, by omega⟩ 0 i j) * w1 (ix2 o ⟨c * 3 + k, by omega⟩) := by
  pointwise [opA]
  rw [dif_pos (by omega)]

/-- The last column of the first layer's matrix is the bias. -/
theorem opA_bias (wp : FVec Ideal S48x1x3x3 .f32) (w1 : FVec Ideal S128x48 .f32) (b1 : FVec Ideal S128 .f32)
    (o : Fin 128) : opA wp w1 b1 (ix2 o 144) = b1 (ix1 o) := by
  pointwise [opA]

/-- The first columns of the second layer's matrix are the weights. -/
theorem opB_weight (w2 : FVec Ideal S16x128 .f32) (b2 : FVec Ideal S16 .f32) (c : Fin 16) (o : Fin 128) :
    opB w2 b2 (ix2 c ⟨o, by omega⟩) = w2 (ix2 c o) := by
  pointwise [opB]

/-- The last column of the second layer's matrix is the bias. -/
theorem opB_bias (w2 : FVec Ideal S16x128 .f32) (b2 : FVec Ideal S16 .f32) (c : Fin 16) : opB w2 b2 (ix2 c 128) = b2 (ix1 c) := by
  pointwise [opB]

variable (m : (ℓ : Loc nD τ sig) → Buf (Elt Ideal) ℓ)

/-- The grid's third operand is the first layer's matrix. -/
theorem V_v6 (c : Dev nD) : V m c main_v6 = opA (m ((c : Thread nD τ).loc main_arg2)) (m ((c : Thread nD τ).loc main_arg3)) (m ((c : Thread nD τ).loc main_arg4)) := by
  entry_read
  rfl

/-- The grid's fourth operand is the second layer's matrix. -/
theorem V_v8 (c : Dev nD) : V m c main_v8 = opB (m ((c : Thread nD τ).loc main_arg5)) (m ((c : Thread nD τ).loc main_arg6)) := by
  entry_read
  rfl

/-- The grid's first operand is the state, each image's pixels in one line. -/
theorem V_v9 (c : Dev nD) : V m c main_v9 = shapeCast S32x16x65536 (m ((c : Thread nD τ).loc main_arg0) : FVec Ideal S32x16x256x256 .f32) shapeCasts_S32x16x256x256_S32x16x65536 := by
  entry_read
  rfl

/-- The grid's second operand is the random numbers, each image's pixels in one line. -/
theorem V_v10 (c : Dev nD) : V m c main_v10 = shapeCast S32x1x65536 (m ((c : Thread nD τ).loc main_arg1) : FVec Ideal S32x1x256x256 .f32) shapeCasts_S32x1x256x256_S32x1x65536 := by
  entry_read
  rfl

/-- The result after the last reshape. -/
theorem W_out (c : Dev nD) : Pipeline.afterTail₀ cfgs (dats m) 0 (V0 m) [hostOps1] c main_v12
    = kerOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold Pipeline.afterTail₀
  rw [show ([hostOps1] : List (List (HloOp τ sig (Elt Ideal)))).flatten = [StableHlo.reshape main_v11 main_v12 (rfl : (.f32 : EltTy) = .f32) shapeCasts_S32x16x65536_S32x16x256x256] from rfl,
    StableHlo.after_cons, StableHlo.after_nil, StableHlo.reshape_result]
  have h : Pipeline.withArrays (cfgs 0).spec c (V0 m c) (fun w => (dats m 0 c).arrAt w (cfgs 0).N) (Proc.devRef .tc main_v11)
      = outG (V m c main_v9) (V m c main_v10) (V m c main_v6) (V m c main_v8) :=
    (Pipeline.withArrays_arr (cfgs 0).spec winFacts0.2 c (V0 m c) (fun w => (dats m 0 c).arrAt w (cfgs 0).N) 4).trans (final m c)
  rw [h, V_v9, V_v10, V_v6, V_v8]
  rfl

/-- The kernel's run: the result is `kerOut` of the arguments, which end unchanged. -/
theorem ker_run (ρ : Dev nD → PrngReg) :
    θ_run defs (onTc (τ := τ) (main (F := Ideal))) ⟨m, fun _ => 0, ρ⟩ (fun r => ∀ c : Dev nD,
      r.2.mem ((c.tc : Thread nD τ).loc main_v12) = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v12 (Pipeline.mem_restRefs_of main_v12 (by decide) (by decide))).trans (W_out m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩) (run_main m ρ)

end Cert.Proof

end
-- ==== Proof.Ref.lean ====
/- What the reference program computes, stage by stage, read at one element. -/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof

open Idealize.ShloMosaic Idealize.ShloMosaic.TcCoe Idealize.SL.Sem
open Cert.ReferenceIdeal Cert.ReferenceIdeal.Gen

section
variable (x : FVec Ideal S32x16x256x256 .f32) (rand : FVec Ideal S32x1x256x256 .f32) (wp : FVec Ideal S48x1x3x3 .f32)
    (w1 : FVec Ideal S128x48 .f32) (b1 : FVec Ideal S128 .f32) (w2 : FVec Ideal S16x128 .f32) (b2 : FVec Ideal S16 .f32)

/-- The state with one wrapped row on each side. -/
def refRows : FVec Ideal S32x16x258x256 .f32 :=
  concatenate S32x16x258x256 2 [⟨S32x16x1x256, extractStridedSlice S32x16x1x256 ![0, 0, 255, 0] x slices_S32x16x256x256_S32x16x1x256_0_0_255_0⟩, ⟨S32x16x256x256, x⟩, ⟨S32x16x1x256, extractStridedSlice S32x16x1x256 ![0, 0, 0, 0] x slices_S32x16x256x256_S32x16x1x256_0_0_0_0⟩] concatenates_S32x16x1x256_S32x16x256x256_S32x16x1x256_S32x16x258x256_d2

/-- The state with one wrapped row and column on each side. -/
def refXp : FVec Ideal S32x16x258x258 .f32 :=
  concatenate S32x16x258x258 3 [⟨S32x16x258x1, extractStridedSlice S32x16x258x1 ![0, 0, 0, 255] (refRows x) slices_S32x16x258x256_S32x16x258x1_0_0_0_255⟩, ⟨S32x16x258x256, refRows x⟩, ⟨S32x16x258x1, extractStridedSlice S32x16x258x1 ![0, 0, 0, 0] (refRows x) slices_S32x16x258x256_S32x16x258x1_0_0_0_0⟩] concatenates_S32x16x258x1_S32x16x258x256_S32x16x258x1_S32x16x258x258_d3

/-- The padded state repeated three times along its channels. -/
def repX : FVec Ideal S32x48x258x258 .f32 :=
  shapeCast S32x48x258x258 (broadcastInDim S32x16x3x258x258 ![0, 1, 3, 4] bcast_S32x16x258x258_S32x16x3x258x258_0_1_3_4 (refXp x)) shapeCasts_S32x16x3x258x258_S32x48x258x258

/-- The filters of one tap, one number per channel, spread over the image. -/
def tapW (i j : ℕ) (h2 : S48x1x3x3.Slices ![0, 0, i, j] S48x1x1x1) : FVec Ideal S32x48x256x256 .f32 :=
  broadcastInDim S32x48x256x256 ![0, 1, 2, 3] bcast_S1x48x1x1_S32x48x256x256_0_1_2_3 (broadcastInDim S1x48x1x1 ![1] bcast_S48_S1x48x1x1_1 (shapeCast S48 (extractStridedSlice S48x1x1x1 ![0, 0, i, j] wp h2) shapeCasts_S48x1x1x1_S48))

/-- One tap of the depthwise convolution. -/
def tapV (i j : ℕ) (h1 : S32x48x258x258.Slices ![0, 0, i, j] S32x48x256x256) (h2 : S48x1x3x3.Slices ![0, 0, i, j] S48x1x1x1) : FVec Ideal S32x48x256x256 .f32 :=
  mulf (extractStridedSlice S32x48x256x256 ![0, 0, i, j] (repX x) h1) (tapW wp i j h2)

/-- The depthwise convolution: zero plus the nine taps. -/
def refY : FVec Ideal S32x48x256x256 .f32 :=
  (addf (addf (addf (addf (addf (addf (addf (addf (addf (broadcastInDim S32x48x256x256 ![] bcast_S_S32x48x256x256 (constant S_ .f32 0x00000000#32)) (tapV x wp 0 0 slices_S32x48x258x258_S32x48x256x256_0_0_0_0 slices_S48x1x3x3_S48x1x1x1_0_0_0_0)) (tapV x wp 0 1 slices_S32x48x258x258_S32x48x256x256_0_0_0_1 slices_S48x1x3x3_S48x1x1x1_0_0_0_1)) (tapV x wp 0 2 slices_S32x48x258x258_S32x48x256x256_0_0_0_2 slices_S48x1x3x3_S48x1x1x1_0_0_0_2)) (tapV x wp 1 0 slices_S32x48x258x258_S32x48x256x256_0_0_1_0 slices_S48x1x3x3_S48x1x1x1_0_0_1_0)) (tapV x wp 1 1 slices_S32x48x258x258_S32x48x256x256_0_0_1_1 slices_S48x1x3x3_S48x1x1x1_0_0_1_1)) (tapV x wp 1 2 slices_S32x48x258x258_S32x48x256x256_0_0_1_2 slices_S48x1x3x3_S48x1x1x1_0_0_1_2)) (tapV x wp 2 0 slices_S32x48x258x258_S32x48x256x256_0_0_2_0 slices_S48x1x3x3_S48x1x1x1_0_0_2_0)) (tapV x wp 2 1 slices_S32x48x258x258_S32x48x256x256_0_0_2_1 slices_S48x1x3x3_S48x1x1x1_0_0_2_1)) (tapV x wp 2 2 slices_S32x48x258x258_S32x48x256x256_0_0_2_2 slices_S48x1x3x3_S48x1x1x1_0_0_2_2))

/-- The hidden layer. -/
def refH : FVec Ideal S32x128x256x256 .f32 :=
  maximumf (addf (transpose S32x128x256x256 [1, 0, 2, 3] (Host.dotGeneral (F := Ideal) (φ₁ := .f32) (φ₂ := .f32) dot_S128x48_S32x48x256x256_S128x32x256x256_1_1_0_023_n_n none w1 (refY x wp)) transposes_S128x32x256x256_S32x128x256x256_1_0_2_3) (broadcastInDim S32x128x256x256 ![0, 1, 2, 3] bcast_S1x128x1x1_S32x128x256x256_0_1_2_3 (broadcastInDim S1x128x1x1 ![1] bcast_S128_S1x128x1x1_1 b1))) (broadcastInDim S32x128x256x256 ![] bcast_S_S32x128x256x256 (constant S_ .f32 0x00000000#32))

/-- The random mask of the cells that fire. -/
def refMask : FVec Ideal S32x1x256x256 .f32 :=
  uitofp .f32 (cmpf .ole rand (broadcastInDim S32x1x256x256 ![] bcast_S_S32x1x256x256 (constant S_ .f32 0x3F000000#32)))

/-- The updated state. -/
def refNew : FVec Ideal S32x16x256x256 .f32 :=
  addf x (mulf (mulf (addf (transpose S32x16x256x256 [1, 0, 2, 3] (Host.dotGeneral (F := Ideal) (φ₁ := .f32) (φ₂ := .f32) dot_S16x128_S32x128x256x256_S16x32x256x256_1_1_0_023_n_n none w2 (refH x wp w1 b1)) transposes_S16x32x256x256_S32x16x256x256_1_0_2_3) (broadcastInDim S32x16x256x256 ![0, 1, 2, 3] bcast_S1x16x1x1_S32x16x256x256_0_1_2_3 (broadcastInDim S1x16x1x1 ![1] bcast_S16_S1x16x1x1_1 b2))) (broadcastInDim S32x16x256x256 ![] bcast_S_S32x16x256x256 (constant S_ .f32 0x3F800000#32))) (broadcastInDim S32x16x256x256 ![0, 1, 2, 3] bcast_S32x1x256x256_S32x16x256x256_0_1_2_3 (refMask rand)))

/-- The maximum of channel 3 over each 3x3 window. -/
def refMax (a : FVec Ideal S32x16x256x256 .f32) : FVec Ideal S32x1x256x256 .f32 :=
  Host.reduceWindow FloatOps.maximumf ![1, 1, 3, 3] ![1, 1, 1, 1] ![0, 0, 1, 1] ![0, 0, 1, 1] (extractStridedSlice S32x1x256x256 ![0, 3, 0, 0] a slices_S32x16x256x256_S32x1x256x256_0_3_0_0) (broadcastInDim S_ ![] bcast_S_S_ (constant (F := Ideal) S_ .f32 0xFF800000#32)) reduceWindows_S32x1x256x256_S32x1x256x256_w1s1p0_0_w1s1p0_0_w3s1p1_1_w3s1p1_1 h_S_

/-- Where that maximum exceeds the threshold of life. -/
def refAlive (a : FVec Ideal S32x16x256x256 .f32) : IVec S32x1x256x256 1 :=
  cmpf .ogt (refMax a) (broadcastInDim S32x1x256x256 ![] bcast_S_S32x1x256x256 (constant (F := Ideal) S_ .f32 0x3DCCCCCD#32))

/-- The reference's result. -/
def refOut : FVec Ideal S32x16x256x256 .f32 :=
  mulf (refNew x rand wp w1 b1 w2 b2) (broadcastInDim S32x16x256x256 ![0, 1, 2, 3] bcast_S32x1x256x256_S32x16x256x256_0_1_2_3 (uitofp .f32 (andi (refAlive x) (refAlive (refNew x rand wp w1 b1 w2 b2)))))
end

/-- The reference run's result term is `refOut` of its arguments. -/
theorem res_eq (m : (ℓ : Loc nD τ sig) → Buf (Elt Ideal) ℓ) (c : Dev nD) : Cert.ReferenceIdeal.Value.res_main_v104 (F := Ideal) m c
    = refOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := rfl

end Cert.Proof

end
-- ==== Proof.RefAt.lean ====
/- The reference's stages read at one element. -/
module

public import proofs.«01_k».proof.Proof.Ref
public import Idealize.ShloMosaic.Lib.WordCmp

@[expose] public section

set_option maxRecDepth 16384

noncomputable section

namespace Cert.Proof

open Idealize.ShloMosaic Idealize.ShloMosaic.TcCoe Idealize.SL.Sem
open Cert.ReferenceIdeal Cert.ReferenceIdeal.Gen

section
variable (x : FVec Ideal S32x16x256x256 .f32) (rand : FVec Ideal S32x1x256x256 .f32) (wp : FVec Ideal S48x1x3x3 .f32)
    (w1 : FVec Ideal S128x48 .f32) (b1 : FVec Ideal S128 .f32) (w2 : FVec Ideal S16x128 .f32) (b2 : FVec Ideal S16 .f32)

/-- A wrapped row is the row 255 places on, modulo 256. -/
theorem refRows_at (b : Fin 32) (c : Fin 16) (r : Fin 258) (s : Fin 256) :
    refRows x (ix4 b c r s) = x (ix4 b c ⟨(r + 255) % 256, Nat.mod_lt _ (by norm_num)⟩ s) := by
  pointwise [refRows]
  by_cases h1 : (r : ℕ) < 1
  · rw [dif_pos h1]
    exact congrArg (fun k => x (ix4 b c k s)) (Fin.ext (by show 255 + (r : ℕ) = (r + 255) % 256; omega))
  · rw [dif_neg h1]
    by_cases h2 : (r : ℕ) - 1 < 256
    · rw [dif_pos h2]
      exact congrArg (fun k => x (ix4 b c k s)) (Fin.ext (by show (r : ℕ) - 1 = (r + 255) % 256; omega))
    · rw [dif_neg h2]
      exact congrArg (fun k => x (ix4 b c k s)) (Fin.ext (by show (r : ℕ) - 1 - 256 = (r + 255) % 256; omega))

/-- A wrapped column likewise. -/
theorem refXp_at (b : Fin 32) (c : Fin 16) (r s : Fin 258) :
    refXp x (ix4 b c r s) = x (ix4 b c ⟨(r + 255) % 256, Nat.mod_lt _ (by norm_num)⟩ ⟨(s + 255) % 256, Nat.mod_lt _ (by norm_num)⟩) := by
  have H : ∀ k : Fin 256, (k : ℕ) = (s + 255) % 256 → refRows x (ix4 b c r k)
      = x (ix4 b c ⟨(r + 255) % 256, Nat.mod_lt _ (by norm_num)⟩ ⟨(s + 255) % 256, Nat.mod_lt _ (by norm_num)⟩) := fun k hk => by
    rw [refRows_at]
    exact congrArg (fun k => x (ix4 b c _ k)) (Fin.ext hk)
  pointwise [refXp]
  by_cases h1 : (s : ℕ) < 1
  · rw [dif_pos h1]
    exact H _ (by show 255 + (s : ℕ) = (s + 255) % 256; omega)
  · rw [dif_neg h1]
    by_cases h2 : (s : ℕ) - 1 < 256
    · rw [dif_pos h2]
      exact H _ (by show (s : ℕ) - 1 = (s + 255) % 256; omega)
    · rw [dif_neg h2]
      exact H _ (by show (s : ℕ) - 1 - 256 = (s + 255) % 256; omega)

/-- The repeated state at an element: channel `q` of the repeat is channel `q / 3`. -/
theorem repX_at (b : Fin 32) (q : Fin 48) (r s : Fin 258) :
    repX x (ix4 b q r s) = refXp x (ix4 b ⟨q / 3, by omega⟩ r s) := by
  unfold repX
  generalize refXp x = v
  refine (shapeCast_apply _ _ _ (ix5 b ⟨q / 3, by omega⟩ ⟨q % 3, by omega⟩ r s : S32x16x3x258x258.Idx) ?_).trans ?_
  · rw [Shape.rowMajor_val_five, Shape.rowMajor_val_four]
    show ((((b : ℕ) * 16 + q / 3) * 3 + q % 3) * 258 + r) * 258 + s = ((((b : ℕ) * 48 + q) * 258 + r) * 258 + s)
    omega
  · refine broadcastInDim_apply _ _ _ _ _ fun a => ?_
    match a with
    | 0 => rfl
    | 1 => rfl
    | 2 => rfl
    | 3 => rfl

/-- The shifted repeated state at an element. -/
theorem slice_at (v : FVec Ideal S32x48x258x258 .f32) (i j : Fin 3) (h1 : S32x48x258x258.Slices ![0, 0, i, j] S32x48x256x256)
    (b : Fin 32) (q : Fin 48) (r s : Fin 256) :
    extractStridedSlice S32x48x256x256 ![0, 0, (i : ℕ), (j : ℕ)] v h1 (ix4 b q r s) = v (ix4 b q ⟨r + i, by omega⟩ ⟨s + j, by omega⟩) := by
  refine extractStridedSlice_apply _ _ h1 _ _ fun a => ?_
  match a with
  | 0 => show (b : ℕ) = 0 + b; omega
  | 1 => show (q : ℕ) = 0 + q; omega
  | 2 => show (r : ℕ) + i = i + r; omega
  | 3 => show (s : ℕ) + j = j + s; omega

/-- The filter of one tap at an element. -/
theorem tapW_at (i j : Fin 3) (h2 : S48x1x3x3.Slices ![0, 0, i, j] S48x1x1x1) (b : Fin 32) (q : Fin 48) (r s : Fin 256) :
    tapW wp i j h2 (ix4 b q r s) = wp (ix4 q 0 i j) := by
  unfold tapW
  refine (broadcastInDim_apply _ _ _ _ (ix4 0 q 0 0 : S1x48x1x1.Idx) fun a => ?_).trans ?_
  · match a with
    | 0 => rfl
    | 1 => rfl
    | 2 => rfl
    | 3 => rfl
  refine (broadcastInDim_apply _ _ _ _ (ix1 q : S48.Idx) fun a => ?_).trans ?_
  · match a with
    | 0 => rfl
  refine (shapeCast_apply _ _ _ (ix4 q 0 0 0 : S48x1x1x1.Idx) ?_).trans ?_
  · rw [Shape.rowMajor_val_four, Shape.rowMajor_val_one]
    show (((q : ℕ) * 1 + 0) * 1 + 0) * 1 + 0 = q
    omega
  refine extractStridedSlice_apply _ _ h2 _ _ fun a => ?_
  match a with
  | 0 => show (q : ℕ) = 0 + q; omega
  | 1 => rfl
  | 2 => rfl
  | 3 => rfl

/-- A product of two arrays at an element. -/
theorem mul_at {s : Shape} (a b : FVec Ideal s .f32) (y : s.Idx) : mulf a b y = (a y * b y : EReal) := rfl

/-- A sum of two arrays at an element. -/
theorem add_at {s : Shape} (a b : FVec Ideal s .f32) (y : s.Idx) : addf a b y = (a y + b y : EReal) := rfl

/-- One tap at an element: the padded state shifted by the tap, times the channel's filter there. -/
theorem tapV_at (i j : Fin 3) (h1 : S32x48x258x258.Slices ![0, 0, i, j] S32x48x256x256) (h2 : S48x1x3x3.Slices ![0, 0, i, j] S48x1x1x1)
    (b : Fin 32) (q : Fin 48) (r s : Fin 256) :
    tapV x wp i j h1 h2 (ix4 b q r s) = refXp x (ix4 b ⟨q / 3, by omega⟩ ⟨r + i, by omega⟩ ⟨s + j, by omega⟩) * wp (ix4 q 0 i j) := by
  unfold tapV
  rw [mul_at, slice_at, repX_at, tapW_at]

attribute [local irreducible] refXp repX tapW tapV

/-- A bit read as a float is one or zero. -/
theorem bit_val (b : BitVec 1) : FloatOps.uitofp (F := Ideal) .f32 b = if b = 1#1 then (1 : EReal) else 0 := by
  show ((b.toNat : ℝ) : EReal) = _
  by_cases h : b = 1#1
  · subst h; simp
  · have : b = 0#1 := by revert b; decide
    subst this; simp

/-- The mask is one where the random number is at most one half. -/
theorem refMask_at (b : Fin 32) (r s : Fin 256) :
    refMask rand (ix4 b 0 r s) = if rand (ix4 b 0 r s) ≤ half then 1 else 0 := by
  pointwise [refMask]
  rw [bit_val]
  exact if_congr (WordCmp.ofBool_decide_eq_one_iff _) rfl rfl

/-- A zero array plus nine others, at an element. -/
theorem sum_nine {s : Shape} (z a b c d e f g h i : FVec Ideal s .f32) (y : s.Idx) (hz : z y = (0 : EReal)) :
    addf (addf (addf (addf (addf (addf (addf (addf (addf z a) b) c) d) e) f) g) h) i y
      = (a y + b y + c y + (d y + e y + f y) + (g y + h y + i y) : EReal) := by
  have k : ∀ a b c d e f g h i : EReal, 0 + a + b + c + d + e + f + g + h + i = a + b + c + (d + e + f) + (g + h + i) := by
    intros; rw [zero_add]; ac_rfl
  rw [add_at, add_at, add_at, add_at, add_at, add_at, add_at, add_at, add_at, hz, k]

/-- The depthwise convolution at an element: the sum over the nine taps. -/
theorem refY_at (b : Fin 32) (q : Fin 48) (r s : Fin 256) :
    refY x wp (ix4 b q r s) = ∑ i : Fin 3, ∑ j : Fin 3,
      x (ix4 b ⟨q / 3, by omega⟩ ⟨(r + i + 255) % 256, Nat.mod_lt _ (by norm_num)⟩ ⟨(s + j + 255) % 256, Nat.mod_lt _ (by norm_num)⟩) * wp (ix4 q 0 i j) := by
  have T : ∀ (i j : ℕ) (hi : i < 3) (hj : j < 3) (h1 : S32x48x258x258.Slices ![0, 0, i, j] S32x48x256x256) (h2 : S48x1x3x3.Slices ![0, 0, i, j] S48x1x1x1),
      tapV x wp i j h1 h2 (ix4 b q r s) = x (ix4 b ⟨q / 3, by omega⟩ ⟨(r + i + 255) % 256, Nat.mod_lt _ (by norm_num)⟩
        ⟨(s + j + 255) % 256, Nat.mod_lt _ (by norm_num)⟩) * wp (ix4 q 0 ⟨i, hi⟩ ⟨j, hj⟩) := fun i j hi hj h1 h2 => by
    rw [tapV_at x wp ⟨i, hi⟩ ⟨j, hj⟩ h1 h2 b q r s, refXp_at]
  have z : broadcastInDim S32x48x256x256 ![] bcast_S_S32x48x256x256 (constant (F := Ideal) S_ .f32 0x00000000#32) (ix4 b q r s) = (0 : EReal) := by
    show Ideal.ofBits .f32 0x00000000#32 = 0
    simp [Ideal.ofBits, Ideal.ieee]
  unfold refY
  refine (sum_nine _ _ _ _ _ _ _ _ _ _ _ z).trans ?_
  rw [T 0 0 (by norm_num) (by norm_num) slices_S32x48x258x258_S32x48x256x256_0_0_0_0 slices_S48x1x3x3_S48x1x1x1_0_0_0_0, T 0 1 (by norm_num) (by norm_num) slices_S32x48x258x258_S32x48x256x256_0_0_0_1 slices_S48x1x3x3_S48x1x1x1_0_0_0_1, T 0 2 (by norm_num) (by norm_num) slices_S32x48x258x258_S32x48x256x256_0_0_0_2 slices_S48x1x3x3_S48x1x1x1_0_0_0_2, T 1 0 (by norm_num) (by norm_num) slices_S32x48x258x258_S32x48x256x256_0_0_1_0 slices_S48x1x3x3_S48x1x1x1_0_0_1_0, T 1 1 (by norm_num) (by norm_num) slices_S32x48x258x258_S32x48x256x256_0_0_1_1 slices_S48x1x3x3_S48x1x1x1_0_0_1_1, T 1 2 (by norm_num) (by norm_num) slices_S32x48x258x258_S32x48x256x256_0_0_1_2 slices_S48x1x3x3_S48x1x1x1_0_0_1_2, T 2 0 (by norm_num) (by norm_num) slices_S32x48x258x258_S32x48x256x256_0_0_2_0 slices_S48x1x3x3_S48x1x1x1_0_0_2_0, T 2 1 (by norm_num) (by norm_num) slices_S32x48x258x258_S32x48x256x256_0_0_2_1 slices_S48x1x3x3_S48x1x1x1_0_0_2_1, T 2 2 (by norm_num) (by norm_num) slices_S32x48x258x258_S32x48x256x256_0_0_2_2 slices_S48x1x3x3_S48x1x1x1_0_0_2_2]
  simp only [Fin.sum_univ_three]
  rfl

/-- A hidden unit at a pixel. -/
theorem refH_at (b : Fin 32) (o : Fin 128) (r s : Fin 256) :
    refH x wp w1 b1 (ix4 b o r s) = max ((∑ q : Fin 48, w1 (ix2 o q) * refY x wp (ix4 b q r s)) + b1 (ix1 o)) 0 := by
  unfold refH
  generalize refY x wp = Y
  pointwise

/-- The updated state at an element. -/
theorem refNew_at (b : Fin 32) (c : Fin 16) (r s : Fin 256) :
    refNew x rand wp w1 b1 w2 b2 (ix4 b c r s)
      = x (ix4 b c r s) + if rand (ix4 b 0 r s) ≤ half then (∑ o : Fin 128, w2 (ix2 c o) * refH x wp w1 b1 (ix4 b o r s)) + b2 (ix1 c) else 0 := by
  have hm := refMask_at rand b r s
  unfold refNew
  generalize refH x wp w1 b1 = H
  generalize refMask rand = M at hm ⊢
  pointwise
  rw [hm, mul_ite, mul_one, mul_zero]

/-- The result at an element. -/
theorem refOut_at (b : Fin 32) (c : Fin 16) (r s : Fin 256) :
    refOut x rand wp w1 b1 w2 b2 (ix4 b c r s)
      = if refAlive x (ix4 b 0 r s) = 1#1 ∧ refAlive (refNew x rand wp w1 b1 w2 b2) (ix4 b 0 r s) = 1#1
        then refNew x rand wp w1 b1 w2 b2 (ix4 b c r s) else 0 := by
  unfold refOut
  generalize refNew x rand wp w1 b1 w2 b2 = N
  generalize refAlive x = A0
  generalize refAlive N = A1
  pointwise
  rw [bit_val, mul_ite, mul_one, mul_zero]
  exact if_congr (andi_one _ _) rfl rfl
end
end Cert.Proof

end
-- ==== Proof.RefAlive.lean ====
/- The reference's test of life: which pixels have a neighbour whose fourth channel exceeds the threshold. -/
module

public import proofs.«01_k».proof.Proof.RefAt
public import proofs.«01_k».proof.Proof.Alive

@[expose] public section

set_option maxRecDepth 16384

noncomputable section

namespace Cert.Proof

open Idealize.ShloMosaic Idealize.ShloMosaic.TcCoe Idealize.SL.Sem
open Cert.ReferenceIdeal Cert.ReferenceIdeal.Gen

/-- A running maximum exceeds `t` where its start or one of its terms does. -/
theorem lt_foldl {α : Type} (t v : EReal) (f : α → EReal) (L : List α) :
    t < L.foldl (fun r n => FloatOps.maximumf (F := Ideal) (φ := .f32) r (f n)) v ↔ t < v ∨ ∃ n ∈ L, t < f n := by
  induction L generalizing v with
  | nil => simp
  | cons n L ih =>
    rw [List.foldl_cons, ih]
    have : FloatOps.maximumf (F := Ideal) (φ := .f32) v (f n) = max v (f n) := rfl
    rw [this, lt_max_iff]
    simp only [List.mem_cons, exists_eq_or_imp, or_assoc]

/-- The padding value of the maximum is the least extended real. -/
theorem pad_bot : Ideal.ofBits .f32 0xFF800000#32 = (⊥ : EReal) := by
  simp [Ideal.ofBits, Ideal.ieee]

/-- The window's shape. -/
abbrev win : Shape := ⟨4, ![1, 1, 3, 3]⟩

/-- The maximum over the three by three window exceeds the threshold where a neighbour inside the image does. -/
theorem window_iff (y : FVec Ideal S32x1x256x256 .f32) (b : Fin 32) (r s : Fin 256) :
    thr < Host.reduceWindow FloatOps.maximumf ![1, 1, 3, 3] ![1, 1, 1, 1] ![0, 0, 1, 1] ![0, 0, 1, 1] y (broadcastInDim S_ ![] bcast_S_S_ (constant (F := Ideal) S_ .f32 0xFF800000#32)) reduceWindows_S32x1x256x256_S32x1x256x256_w1s1p0_0_w1s1p0_0_w3s1p1_1_w3s1p1_1 h_S_ (ix4 b 0 r s)
      ↔ ∃ i j : Fin 3, inside i r ∧ inside j s ∧ thr < y (ix4 b 0 ⟨(r + i + 255) % 256, Nat.mod_lt _ (by norm_num)⟩ ⟨(s + j + 255) % 256, Nat.mod_lt _ (by norm_num)⟩) := by
  unfold Host.reduceWindow
  refine (lt_foldl thr _ _ _).trans ?_
  have hv : broadcastInDim S_ ![] bcast_S_S_ (constant (F := Ideal) S_ .f32 0xFF800000#32) (Shape.Idx.first h_S_) = (⊥ : EReal) := pad_bot
  rw [hv]
  constructor
  · rintro (h | ⟨n, -, h⟩)
    · exact absurd h not_lt_bot
    · split at h
      · rename_i hin
        have h2 := hin 2
        have h3 := hin 3
        have e2 : 1 ≤ (r : ℕ) * 1 + (win.rowMajor.symm n 2).val ∧ (r : ℕ) * 1 + (win.rowMajor.symm n 2).val - 1 < 256 := h2
        have e3 : 1 ≤ (s : ℕ) * 1 + (win.rowMajor.symm n 3).val ∧ (s : ℕ) * 1 + (win.rowMajor.symm n 3).val - 1 < 256 := h3
        have k2 : (win.rowMajor.symm n 2).val < 3 := (win.rowMajor.symm n 2).isLt
        have k3 : (win.rowMajor.symm n 3).val < 3 := (win.rowMajor.symm n 3).isLt
        have k0 : (win.rowMajor.symm n 0).val < 1 := (win.rowMajor.symm n 0).isLt
        have k1 : (win.rowMajor.symm n 1).val < 1 := (win.rowMajor.symm n 1).isLt
        refine ⟨⟨(win.rowMajor.symm n 2).val, k2⟩, ⟨(win.rowMajor.symm n 3).val, k3⟩, ⟨by show 1 ≤ (r : ℕ) + (win.rowMajor.symm n 2).val; omega, by show (r : ℕ) + (win.rowMajor.symm n 2).val ≤ 256; omega⟩,
          ⟨by show 1 ≤ (s : ℕ) + (win.rowMajor.symm n 3).val; omega, by show (s : ℕ) + (win.rowMajor.symm n 3).val ≤ 256; omega⟩, ?_⟩
        refine lt_of_lt_of_eq h (congrArg y (funext fun a => Fin.ext ?_))
        match a with
        | 0 => show (b : ℕ) * 1 + (win.rowMajor.symm n 0).val - 0 = b; omega
        | 1 => show 0 * 1 + (win.rowMajor.symm n 1).val - 0 = 0; omega
        | 2 => show (r : ℕ) * 1 + (win.rowMajor.symm n 2).val - 1 = (r + (win.rowMajor.symm n 2).val + 255) % 256; omega
        | 3 => show (s : ℕ) * 1 + (win.rowMajor.symm n 3).val - 1 = (s + (win.rowMajor.symm n 3).val + 255) % 256; omega
      · exact absurd h not_lt_bot
  · rintro ⟨i, j, ⟨hi1, hi2⟩, ⟨hj1, hj2⟩, h⟩
    right
    obtain ⟨n, hn⟩ : ∃ n, win.rowMajor.symm n = (ix4 0 0 i j : win.Idx) := ⟨win.rowMajor (ix4 0 0 i j), Equiv.symm_apply_apply _ _⟩
    refine ⟨n, List.mem_finRange _, ?_⟩
    have k0 : (win.rowMajor.symm n 0).val = 0 := by rw [hn]; rfl
    have k1 : (win.rowMajor.symm n 1).val = 0 := by rw [hn]; rfl
    have k2 : (win.rowMajor.symm n 2).val = i := by rw [hn]; rfl
    have k3 : (win.rowMajor.symm n 3).val = j := by rw [hn]; rfl
    have hb := b.isLt
    rw [dif_pos (fun a => ?_)]
    · refine lt_of_lt_of_eq h (congrArg y (funext fun a => Fin.ext ?_))
      match a with
      | 0 => show (b : ℕ) = (b : ℕ) * 1 + (win.rowMajor.symm n 0).val - 0; omega
      | 1 => show 0 = 0 * 1 + (win.rowMajor.symm n 1).val - 0; omega
      | 2 => show (r + (i : ℕ) + 255) % 256 = (r : ℕ) * 1 + (win.rowMajor.symm n 2).val - 1; omega
      | 3 => show (s + (j : ℕ) + 255) % 256 = (s : ℕ) * 1 + (win.rowMajor.symm n 3).val - 1; omega
    · match a with
      | 0 => exact ⟨Nat.zero_le _, by show (b : ℕ) * 1 + (win.rowMajor.symm n 0).val - 0 < 32; omega⟩
      | 1 => exact ⟨Nat.zero_le _, by show 0 * 1 + (win.rowMajor.symm n 1).val - 0 < 1; omega⟩
      | 2 => exact ⟨by show 1 ≤ (r : ℕ) * 1 + (win.rowMajor.symm n 2).val; omega, by show (r : ℕ) * 1 + (win.rowMajor.symm n 2).val - 1 < 256; omega⟩
      | 3 => exact ⟨by show 1 ≤ (s : ℕ) * 1 + (win.rowMajor.symm n 3).val; omega, by show (s : ℕ) * 1 + (win.rowMajor.symm n 3).val - 1 < 256; omega⟩

/-- A pixel is alive where a neighbour inside the image exceeds the threshold in its fourth channel. -/
theorem refAlive_iff (a : FVec Ideal S32x16x256x256 .f32) (b : Fin 32) (r s : Fin 256) :
    refAlive a (ix4 b 0 r s) = 1#1 ↔ ∃ i j : Fin 3, inside i r ∧ inside j s ∧
      thr < a (ix4 b 3 ⟨(r + i + 255) % 256, Nat.mod_lt _ (by norm_num)⟩ ⟨(s + j + 255) % 256, Nat.mod_lt _ (by norm_num)⟩) := by
  have h : refAlive a (ix4 b 0 r s) = 1#1 ↔ thr < refMax a (ix4 b 0 r s) := by
    unfold refAlive
    generalize refMax a = v
    show BitVec.ofBool (decide (thr < v (ix4 b 0 r s))) = 1#1 ↔ _
    exact WordCmp.ofBool_decide_eq_one_iff _
  rw [h]
  unfold refMax
  refine (window_iff _ b r s).trans ?_
  have e : ∀ p q : Fin 256, extractStridedSlice S32x1x256x256 ![0, 3, 0, 0] a slices_S32x16x256x256_S32x1x256x256_0_3_0_0 (ix4 b 0 p q) = a (ix4 b 3 p q) := fun p q => by
    refine extractStridedSlice_apply _ _ _ _ _ fun a => ?_
    match a with
    | 0 => show (b : ℕ) = 0 + b; omega
    | 1 => rfl
    | 2 => show (p : ℕ) = 0 + p; omega
    | 3 => show (q : ℕ) = 0 + q; omega
  simp only [e]

end Cert.Proof

end
-- ==== Proof.Swap.lean ====
/- Folding the filters into the first layer's weights: the two orders of summation agree on finite numbers. -/
module

public import Idealize.ShloMosaic.Lib.Pointwise

@[expose] public section

noncomputable section

namespace Cert.Proof

open Idealize.ShloMosaic

/-- A sum of reals read as extended reals. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- Over the reals: folding each filter into its weight first, or summing each channel's taps first, is the same. -/
theorem swap_real (a : Fin 48 → ℝ) (w : Fin 48 → Fin 3 → Fin 3 → ℝ) (x : Fin 16 → Fin 3 → Fin 3 → ℝ) :
    ∑ i : Fin 3, ∑ j : Fin 3, ∑ c : Fin 16, (∑ k : Fin 3, w ⟨c * 3 + k, by omega⟩ i j * a ⟨c * 3 + k, by omega⟩) * x c i j
      = ∑ q : Fin 48, a q * ∑ i : Fin 3, ∑ j : Fin 3, x ⟨q / 3, by omega⟩ i j * w q i j := by
  rw [Fin.sum_univ_tiles 16 3 (by norm_num) (fun q : Fin 48 => a q * ∑ i : Fin 3, ∑ j : Fin 3, x ⟨q / 3, by omega⟩ i j * w q i j)]
  refine ((Finset.sum_congr rfl fun i _ => Finset.sum_comm).trans Finset.sum_comm).trans ?_
  refine Finset.sum_congr rfl fun c _ => ?_
  simp only [Finset.sum_mul, Finset.mul_sum]
  refine ((Finset.sum_congr rfl fun i _ => Finset.sum_comm).trans Finset.sum_comm).trans ?_
  refine Finset.sum_congr rfl fun k _ => Finset.sum_congr rfl fun i _ => Finset.sum_congr rfl fun j _ => ?_
  have e : (⟨(c * 3 + k) / 3, by omega⟩ : Fin 16) = c := Fin.ext (by show ((c : ℕ) * 3 + k) / 3 = c; omega)
  simp only [e]
  ring

/-- The same over the extended reals, where every number is finite. -/
theorem swap (a : Fin 48 → EReal) (w : Fin 48 → Fin 3 → Fin 3 → EReal) (x : Fin 16 → Fin 3 → Fin 3 → EReal)
    (ha : ∀ q, ∃ r : ℝ, a q = r) (hw : ∀ q i j, ∃ r : ℝ, w q i j = r) (hx : ∀ c i j, ∃ r : ℝ, x c i j = r) :
    ∑ i : Fin 3, ∑ j : Fin 3, ∑ c : Fin 16, (∑ k : Fin 3, w ⟨c * 3 + k, by omega⟩ i j * a ⟨c * 3 + k, by omega⟩) * x c i j
      = ∑ q : Fin 48, a q * ∑ i : Fin 3, ∑ j : Fin 3, x ⟨q / 3, by omega⟩ i j * w q i j := by
  choose a' ha using ha
  choose w' hw using hw
  choose x' hx using hx
  simp only [ha, hw, hx, ← EReal.coe_mul, coe_sum]
  exact congrArg _ (swap_real a' w' x')

end Cert.Proof

end
-- ==== Proof.Equation.lean ====
/- The equation: on finite states, filters and first weights the kernel's result is the reference's. -/
module

public import proofs.«01_k».proof.Proof.Host
public import proofs.«01_k».proof.Proof.RefAlive
public import proofs.«01_k».proof.Proof.Swap

@[expose] public section

set_option maxRecDepth 16384

noncomputable section

namespace Cert.Proof

open Idealize.ShloMosaic

/-- The row of a pixel of the flat image. -/
def rowOf (p : Fin 65536) : Fin 256 := ⟨p / 256, by omega⟩

/-- The column of a pixel of the flat image. -/
def colOf (p : Fin 65536) : Fin 256 := ⟨p % 256, by omega⟩

/-- One image of a batch, channel by channel, its pixels in one line. -/
def flat (x : FVec Ideal Cert.KernelIdeal.S32x16x256x256 .f32) (b : Fin 32) (c : Fin 16) (p : Fin 65536) : EReal :=
  x (ix4 b c (rowOf p) (colOf p))

/-- The reshaped state at a pixel. -/
theorem state_at (x : FVec Ideal Cert.KernelIdeal.S32x16x256x256 .f32) (b : Fin 32) (c : Fin 16) (p : Fin 65536) :
    shapeCast Cert.KernelIdeal.S32x16x65536 x Cert.KernelIdeal.Gen.shapeCasts_S32x16x256x256_S32x16x65536 (ix3 b c p) = flat x b c p := by
  refine shapeCast_apply _ _ _ (ix4 b c (rowOf p) (colOf p) : Cert.KernelIdeal.S32x16x256x256.Idx) ?_
  rw [Shape.rowMajor_val_three, Shape.rowMajor_val_four]
  show (((b : ℕ) * 16 + c) * 256 + p / 256) * 256 + p % 256 = ((b : ℕ) * 16 + c) * 65536 + p
  omega

/-- The reshaped random numbers at a pixel. -/
theorem rand_at (x : FVec Ideal Cert.KernelIdeal.S32x1x256x256 .f32) (b : Fin 32) (p : Fin 65536) :
    shapeCast Cert.KernelIdeal.S32x1x65536 x Cert.KernelIdeal.Gen.shapeCasts_S32x1x256x256_S32x1x65536 (ix3 b 0 p) = x (ix4 b 0 (rowOf p) (colOf p)) := by
  refine shapeCast_apply _ _ _ (ix4 b 0 (rowOf p) (colOf p) : Cert.KernelIdeal.S32x1x256x256.Idx) ?_
  rw [Shape.rowMajor_val_three, Shape.rowMajor_val_four]
  show (((b : ℕ) * 1 + 0) * 256 + p / 256) * 256 + p % 256 = ((b : ℕ) * 1 + 0) * 65536 + p
  omega

/-- The row of a neighbour. -/
theorem row_nb (i j : Fin 3) (p : Fin 65536) : rowOf (nb i j p) = ⟨(rowOf p + i + 255) % 256, Nat.mod_lt _ (by norm_num)⟩ :=
  Fin.ext (by
    show (((p : ℕ) / 256 + i + 255) % 256 * 256 + ((p : ℕ) % 256 + j + 255) % 256) / 256 = ((p : ℕ) / 256 + i + 255) % 256
    omega)

/-- The column of a neighbour. -/
theorem col_nb (i j : Fin 3) (p : Fin 65536) : colOf (nb i j p) = ⟨(colOf p + j + 255) % 256, Nat.mod_lt _ (by norm_num)⟩ :=
  Fin.ext (by
    show (((p : ℕ) / 256 + i + 255) % 256 * 256 + ((p : ℕ) % 256 + j + 255) % 256) % 256 = ((p : ℕ) % 256 + j + 255) % 256
    omega)

/-- The kernel's and the reference's tests of life agree. -/
theorem alive_iff (a : FVec Ideal Cert.KernelIdeal.S32x16x256x256 .f32) (b : Fin 32) (p : Fin 65536) :
    alive (flat a b 3) p ↔ refAlive a (ix4 b 0 (rowOf p) (colOf p)) = 1#1 := by
  rw [refAlive_iff]
  unfold alive flat
  simp only [row_nb, col_nb]
  rfl

section
variable (x : FVec Ideal Cert.KernelIdeal.S32x16x256x256 .f32) (rand : FVec Ideal Cert.KernelIdeal.S32x1x256x256 .f32)
    (wp : FVec Ideal Cert.KernelIdeal.S48x1x3x3 .f32) (w1 : FVec Ideal Cert.KernelIdeal.S128x48 .f32) (b1 : FVec Ideal Cert.KernelIdeal.S128 .f32)
    (w2 : FVec Ideal Cert.KernelIdeal.S16x128 .f32) (b2 : FVec Ideal Cert.KernelIdeal.S16 .f32)

/-- The hidden units agree where the state, the filters and the first weights are finite. -/
theorem hid_eq (hx : ∀ y, ∃ r : ℝ, x y = r) (hw : ∀ y, ∃ r : ℝ, wp y = r) (h1 : ∀ y, ∃ r : ℝ, w1 y = r)
    (b : Fin 32) (o : Fin 128) (p : Fin 65536) :
    hid (flat x b) (fun o q => opA wp w1 b1 (ix2 o q)) o p = refH x wp w1 b1 (ix4 b o (rowOf p) (colOf p)) := by
  rw [refH_at]
  unfold hid
  simp only [refY_at, opA_tap, opA_bias]
  unfold flat
  simp only [row_nb, col_nb]
  rw [swap (fun q => w1 (ix2 o q)) (fun q i j => wp (ix4 q 0 i j))
    (fun c i j => x (ix4 b c ⟨(rowOf p + i + 255) % 256, Nat.mod_lt _ (by norm_num)⟩ ⟨(colOf p + j + 255) % 256, Nat.mod_lt _ (by norm_num)⟩))
    (fun _ => h1 _) (fun _ _ _ => hw _) (fun _ _ _ => hx _)]

/-- The updated states agree. -/
theorem upd_eq (hx : ∀ y, ∃ r : ℝ, x y = r) (hw : ∀ y, ∃ r : ℝ, wp y = r) (h1 : ∀ y, ∃ r : ℝ, w1 y = r)
    (b : Fin 32) (c : Fin 16) (p : Fin 65536) :
    upd (flat x b) (fun p => rand (ix4 b 0 (rowOf p) (colOf p))) (fun o q => opA wp w1 b1 (ix2 o q)) (fun c o => opB w2 b2 (ix2 c o)) c p
      = flat (refNew x rand wp w1 b1 w2 b2) b c p := by
  unfold upd
  simp only [hid_eq x wp w1 b1 hx hw h1, opB_weight, opB_bias]
  exact (refNew_at x rand wp w1 b1 w2 b2 b c (rowOf p) (colOf p)).symm

open Classical in
/-- The results agree. -/
theorem out_eq (hx : ∀ y, ∃ r : ℝ, x y = r) (hw : ∀ y, ∃ r : ℝ, wp y = r) (h1 : ∀ y, ∃ r : ℝ, w1 y = r) :
    kerOut x rand wp w1 b1 w2 b2 = refOut x rand wp w1 b1 w2 b2 := by
  funext y
  obtain ⟨b, c, r, s, rfl⟩ : ∃ b c r s, y = (ix4 b c r s : Cert.KernelIdeal.S32x16x256x256.Idx) := ⟨_, _, _, _, eq_ix4 y⟩
  let p : Fin 65536 := ⟨r * 256 + s, by omega⟩
  have hr : rowOf p = r := Fin.ext (by show ((r : ℕ) * 256 + s) / 256 = r; omega)
  have hs : colOf p = s := Fin.ext (by show ((r : ℕ) * 256 + s) % 256 = s; omega)
  refine (shapeCast_apply _ _ _ (ix3 b c p : Cert.KernelIdeal.S32x16x65536.Idx) ?_).trans ?_
  · rw [Shape.rowMajor_val_three, Shape.rowMajor_val_four]
    show ((b : ℕ) * 16 + c) * 65536 + ((r : ℕ) * 256 + s) = (((b : ℕ) * 16 + c) * 256 + r) * 256 + s
    omega
  refine Eq.trans (b := out (flat x b) (fun p => rand (ix4 b 0 (rowOf p) (colOf p))) (fun o q => opA wp w1 b1 (ix2 o q))
    (fun c o => opB w2 b2 (ix2 c o)) c p) ?_ ?_
  · have e1 : (fun c p => shapeCast Cert.KernelIdeal.S32x16x65536 x Cert.KernelIdeal.Gen.shapeCasts_S32x16x256x256_S32x16x65536 (ix3 b c p)) = flat x b :=
      funext fun c => funext fun p => state_at x b c p
    have e2 : (fun p => shapeCast Cert.KernelIdeal.S32x1x65536 rand Cert.KernelIdeal.Gen.shapeCasts_S32x1x256x256_S32x1x65536 (ix3 b 0 p))
        = fun p => rand (ix4 b 0 (rowOf p) (colOf p)) := funext fun p => rand_at rand b p
    rw [← e1, ← e2]
    rfl
  · rw [refOut_at]
    unfold out
    have g : ∀ c, upd (flat x b) (fun p => rand (ix4 b 0 (rowOf p) (colOf p))) (fun o q => opA wp w1 b1 (ix2 o q)) (fun c o => opB w2 b2 (ix2 c o)) c
        = flat (refNew x rand wp w1 b1 w2 b2) b c := fun c => funext fun p => upd_eq x rand wp w1 b1 w2 b2 hx hw h1 b c p
    rw [g, g]
    have l := alive_iff x b p
    have l' := alive_iff (refNew x rand wp w1 b1 w2 b2) b p
    have f : flat (refNew x rand wp w1 b1 w2 b2) b c p = refNew x rand wp w1 b1 w2 b2 (ix4 b c r s) := by
      unfold flat
      rw [hr, hs]
    rw [hr, hs] at l l'
    rw [f]
    exact if_congr (and_congr l l') rfl rfl
end

end Cert.Proof

end
-- ==== Proof.Finite.lean ====
/- The precondition read: every element of the state, of the filters and of the first layer's weights is a real number. -/
module

public import proofs.«01_k».proof.Pre_finite
public import Idealize.ShloMosaic.Lib.ReduceAll
public import Idealize.ShloMosaic.Lib.WordCmp
public import Idealize.ShloMosaic.PureOps.Ideal

@[expose] public section

set_option maxRecDepth 16384

noncomputable section

namespace Cert.Proof

open Idealize.ShloMosaic

/-- The shape relations that the precondition states. -/
theorem preFacts : Cert.Pre_finite.Facts where
  bcast_S_S32x16x256x256 := by decide
  reducesTo_S32x16x256x256_S_d0_1_2_3 := by decide
  h_S_ := by decide
  bcast_S_S48x1x3x3 := by decide
  reducesTo_S48x1x3x3_S_d0_1_2_3 := by decide
  bcast_S_S128x48 := by decide
  reducesTo_S128x48_S_d0_1 := by decide

/-- An extended real whose absolute value is below the infinite word is a real. -/
theorem real_of_abs (x : EReal) (h : BitVec.ofBool (decide (max x (-x) < Ideal.ofBits .f32 0x7F800000#32)) = 1#1) : ∃ r : ℝ, x = r := by
  have ht : Ideal.ofBits .f32 0x7F800000#32 = (⊤ : EReal) := by simp [Ideal.ofBits, Ideal.ieee]
  have l := (WordCmp.ofBool_decide_eq_one_iff _).1 h
  rw [ht, max_lt_iff] at l
  induction x with
  | bot => simp at l
  | top => simp at l
  | coe r => exact ⟨r, rfl⟩

/-- A conjunction of bits is one only where both bits are. -/
theorem both_one (a b : BitVec 1) (h : IntOp.andi a b = 1#1) : a = 1#1 ∧ b = 1#1 := by
  revert a b; decide

/-- The test of finiteness over one array: a conjunction of all its comparisons that is one says that each element is real. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant (F := Ideal) Cert.Pre_finite.S_ .f32 0x7F800000#32)))
      (constantI Cert.Pre_finite.S_ 1 1#1) hr hu j = 1#1) (y : s.Idx) : ∃ r : ℝ, x y = r := by
  have : Subsingleton Cert.Pre_finite.S_.Idx := ⟨fun a b => funext fun k => k.elim0⟩
  exact real_of_abs (x y) (Host.reduce_andi_all _ _ hr hu j h y)

/-- The precondition says that the state, the filters and the first weights are finite everywhere. -/
theorem finite_of_pre [Cert.Pre_finite.Facts] (x : FVec Ideal Cert.Pre_finite.S32x16x256x256 .f32) (rand : FVec Ideal Cert.Pre_finite.S32x1x256x256 .f32)
    (wp : FVec Ideal Cert.Pre_finite.S48x1x3x3 .f32) (w1 : FVec Ideal Cert.Pre_finite.S128x48 .f32) (b1 : FVec Ideal Cert.Pre_finite.S128 .f32)
    (w2 : FVec Ideal Cert.Pre_finite.S16x128 .f32) (b2 : FVec Ideal Cert.Pre_finite.S16 .f32)
    (h : Cert.Pre_finite.fn (F := Ideal) x rand wp w1 b1 w2 b2 = fun _ => 1#1) :
    (∀ y, ∃ r : ℝ, x y = r) ∧ (∀ y, ∃ r : ℝ, wp y = r) ∧ (∀ y, ∃ r : ℝ, w1 y = r) := by
  have h0 := congrFun h (fun k => k.elim0)
  unfold Cert.Pre_finite.fn at h0
  obtain ⟨h12, h3⟩ := both_one _ _ h0
  obtain ⟨h1, h2⟩ := both_one _ _ h12
  exact ⟨all_real x _ _ _ _ h1, all_real wp _ _ _ _ h2, all_real w1 _ _ _ _ h3⟩

end Cert.Proof

end
-- ==== Proof.lean ====
/- The five claims assembled: the three frames, the idealization, and the equality of the kernel's result with the
   reference's over the extended reals, where the state, the filters and the first layer's weights are finite. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference terminates, leaves its arguments unchanged and has no semaphore whose counter could differ from zero. -/
theorem ref_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference compute the same result on finite states, filters and first weights. -/
theorem value : @Cert.algebraic_KernelIdeal_ReferenceIdeal_pre_finite Cert.KernelIdeal.Gen.facts Cert.ReferenceIdeal.Gen.facts preFacts := by
  intro m g m' g' hpre hargs
  refine ⟨_, ker_run m g, ?_⟩
  refine (θ_run Cert.ReferenceIdeal.defs _ _).mono (fun r h c => ⟨?_, (h c).2⟩) (Cert.ReferenceIdeal.Value.run (F := Ideal) m' g')
  obtain ⟨a0, a1, a2, a3, a4, a5, a6⟩ := hargs c
  have := preFacts
  obtain ⟨hx, hw, h1⟩ := finite_of_pre _ _ _ _ _ _ _ (hpre c)
  refine (h c).1.trans ((res_eq m' c).trans ?_)
  refine Eq.trans ?_ (out_eq _ _ _ _ _ _ _ hx hw h1).symm
  rw [a0, a1, a2, a3, a4, a5, a6]

/-- The five claims of the certificate. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    trivial,
    value⟩

end Cert.Proof

end
